-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096 : Shape := ⟨1, ![4096]⟩
abbrev S16384x4096 : Shape := ⟨2, ![16384, 4096]⟩
abbrev S16384x1024x4 : Shape := ⟨3, ![16384, 1024, 4]⟩
abbrev S16384x1024 : Shape := ⟨2, ![16384, 1024]⟩
abbrev S32x4608 : Shape := ⟨2, ![32, 4608]⟩
abbrev S32x1024 : Shape := ⟨2, ![32, 1024]⟩
abbrev S8192 : Shape := ⟨1, ![8192]⟩
abbrev S4608 : Shape := ⟨1, ![4608]⟩
abbrev S_ : Shape := ⟨0, ![]⟩
abbrev S16 : Shape := ⟨1, ![16]⟩
abbrev S1x16 : Shape := ⟨2, ![1, 16]⟩
abbrev S1x4608 : Shape := ⟨2, ![1, 4608]⟩
abbrev S32x128 : Shape := ⟨2, ![32, 128]⟩
abbrev S128 : Shape := ⟨1, ![128]⟩
abbrev S1x128 : Shape := ⟨2, ![1, 128]⟩

abbrev nBuf : Table → Nat
  | .hbm => 7
  | .local .scVector .vmem => 7
  | _ => 0

abbrev bufTy : (tb : Table) → Fin (nBuf tb) → BufTy
  | .hbm, ⟨0, _⟩ => ⟨S4096, .f32⟩
  | .hbm, ⟨1, _⟩ => ⟨S16384x4096, .i1⟩
  | .hbm, ⟨2, _⟩ => ⟨S16384x4096, .i8⟩
  | .hbm, ⟨3, _⟩ => ⟨S16384x1024x4, .i8⟩
  | .hbm, ⟨4, _⟩ => ⟨S16384x1024, .i32⟩
  | .hbm, ⟨5, _⟩ => ⟨S32x4608, .i32⟩
  | .hbm, ⟨6, _⟩ => ⟨S4096, .f32⟩
  | .local .scVector .vmem, ⟨0, _⟩ => ⟨S32x1024, .i32⟩
  | .local .scVector .vmem, ⟨1, _⟩ => ⟨S32x1024, .i32⟩
  | .local .scVector .vmem, ⟨2, _⟩ => ⟨S8192, .i32⟩
  | .local .scVector .vmem, ⟨3, _⟩ => ⟨S4608, .i32⟩
  | .local .scVector .vmem, ⟨4, _⟩ => ⟨S32x128, .i32⟩
  | .local .scVector .vmem, ⟨5, _⟩ => ⟨S128, .f32⟩
  | .local .scVector .vmem, ⟨6, _⟩ => ⟨S128, .f32⟩
  | _, _ => ⟨S4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v2_scv : Ref sig .scVector := ⟨.hbm, 4, rfl⟩
abbrev main_v3_scv : Ref sig .scVector := ⟨.hbm, 5, rfl⟩
abbrev main_arg0_scv : Ref sig .scVector := ⟨.hbm, 0, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c288_i32 : BitVec 32 := 288#32
  let v3 : BitVec 32 := Scalar.addi c0_i32_0 c288_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v14 : BitVec 32 := Scalar.muli arg10 c16_i32
  let v15 : Index := Scalar.indexCast v14
  ![v15.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_2 : BitVec 32 := 0#32
  let v5 : BitVec 32 := Scalar.addi v2 c0_i32_2
  let c0_i32_3 : BitVec 32 := 0#32
  ![v5.toNat, 0]
@[reducible] def k0_t2_loop : Scf.Loop 32 :=
  let c0_i32_6 : BitVec 32 := 0#32
  let c8_i32 : BitVec 32 := 8#32
  let v8 : BitVec 32 := Scalar.addi c0_i32_6 c8_i32
  let c1_i32_7 : BitVec 32 := 1#32
  ⟨c0_i32_6, v8, c1_i32_7⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_6 : BitVec 32 := 0#32
  let c1_i32_7 : BitVec 32 := 1#32
  let arg10 : BitVec 32 := Scf.iv c0_i32_6 c1_i32_7 k0_t2
  let v13 : BitVec 32 := Scalar.muli c2_i32_13 arg10
  let c1_i32_14 : BitVec 32 := 1#32
  let v14 : BitVec 32 := Scalar.addi v13 c1_i32_14
  let c32_i32_15 : BitVec 32 := 32#32
  let v15 : BitVec 32 := Scalar.muli v14 c32_i32_15
  let v16 : BitVec 32 := Scalar.addi v2 v15
  let c0_i32_16 : BitVec 32 := 0#32
  ![v16.toNat, 0]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_6 : BitVec 32 := 0#32
  let c1_i32_7 : BitVec 32 := 1#32
  let arg10 : BitVec 32 := Scf.iv c0_i32_6 c1_i32_7 k0_t2
  let v13 : BitVec 32 := Scalar.muli c2_i32_13 arg10
  let c32_i32_18 : BitVec 32 := 32#32
  let v19 : BitVec 32 := Scalar.muli v13 c32_i32_18
  let v20 : BitVec 32 := Scalar.addi v2 v19
  let c0_i32_19 : BitVec 32 := 0#32
  ![v20.toNat, 0]
@[reducible] def k0_t3_loop : Scf.Loop 32 :=
  let c0_i32_22 : BitVec 32 := 0#32
  let c32_i32_23 : BitVec 32 := 32#32
  let v23 : BitVec 32 := Scalar.addi c0_i32_22 c32_i32_23
  let c1_i32_24 : BitVec 32 := 1#32
  ⟨c0_i32_22, v23, c1_i32_24⟩
def k0_off5 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v37 : Index := Scalar.indexCast arg12
  let c0 : Index := 0#32
  ![v37.toNat, 0]
def k0_off6 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v40 : Index := Scalar.indexCast arg12
  let c16 : Index := 16#32
  ![v40.toNat, 16]
def k0_off7 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v43 : Index := Scalar.indexCast arg12
  let c32 : Index := 32#32
  ![v43.toNat, 32]
def k0_off8 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v46 : Index := Scalar.indexCast arg12
  let c48 : Index := 48#32
  ![v46.toNat, 48]
def k0_off9 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v49 : Index := Scalar.indexCast arg12
  let c64 : Index := 64#32
  ![v49.toNat, 64]
def k0_off10 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v52 : Index := Scalar.indexCast arg12
  let c80 : Index := 80#32
  ![v52.toNat, 80]
def k0_off11 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v55 : Index := Scalar.indexCast arg12
  let c96 : Index := 96#32
  ![v55.toNat, 96]
def k0_off12 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v58 : Index := Scalar.indexCast arg12
  let c112 : Index := 112#32
  ![v58.toNat, 112]
def k0_off13 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v61 : Index := Scalar.indexCast arg12
  let c128 : Index := 128#32
  ![v61.toNat, 128]
def k0_off14 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v64 : Index := Scalar.indexCast arg12
  let c144 : Index := 144#32
  ![v64.toNat, 144]
def k0_off15 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v67 : Index := Scalar.indexCast arg12
  let c160 : Index := 160#32
  ![v67.toNat, 160]
def k0_off16 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v70 : Index := Scalar.indexCast arg12
  let c176 : Index := 176#32
  ![v70.toNat, 176]
def k0_off17 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v73 : Index := Scalar.indexCast arg12
  let c192 : Index := 192#32
  ![v73.toNat, 192]
def k0_off18 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v76 : Index := Scalar.indexCast arg12
  let c208 : Index := 208#32
  ![v76.toNat, 208]
def k0_off19 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v79 : Index := Scalar.indexCast arg12
  let c224 : Index := 224#32
  ![v79.toNat, 224]
def k0_off20 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v82 : Index := Scalar.indexCast arg12
  let c240 : Index := 240#32
  ![v82.toNat, 240]
def k0_off21 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v85 : Index := Scalar.indexCast arg12
  let c256 : Index := 256#32
  ![v85.toNat, 256]
def k0_off22 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v88 : Index := Scalar.indexCast arg12
  let c272 : Index := 272#32
  ![v88.toNat, 272]
def k0_off23 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v91 : Index := Scalar.indexCast arg12
  let c288 : Index := 288#32
  ![v91.toNat, 288]
def k0_off24 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v94 : Index := Scalar.indexCast arg12
  let c304 : Index := 304#32
  ![v94.toNat, 304]
def k0_off25 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v97 : Index := Scalar.indexCast arg12
  let c320 : Index := 320#32
  ![v97.toNat, 320]
def k0_off26 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v100 : Index := Scalar.indexCast arg12
  let c336 : Index := 336#32
  ![v100.toNat, 336]
def k0_off27 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v103 : Index := Scalar.indexCast arg12
  let c352 : Index := 352#32
  ![v103.toNat, 352]
def k0_off28 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v106 : Index := Scalar.indexCast arg12
  let c368 : Index := 368#32
  ![v106.toNat, 368]
def k0_off29 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v109 : Index := Scalar.indexCast arg12
  let c384 : Index := 384#32
  ![v109.toNat, 384]
def k0_off30 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v112 : Index := Scalar.indexCast arg12
  let c400 : Index := 400#32
  ![v112.toNat, 400]
def k0_off31 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v115 : Index := Scalar.indexCast arg12
  let c416 : Index := 416#32
  ![v115.toNat, 416]
def k0_off32 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v118 : Index := Scalar.indexCast arg12
  let c432 : Index := 432#32
  ![v118.toNat, 432]
def k0_off33 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v121 : Index := Scalar.indexCast arg12
  let c448 : Index := 448#32
  ![v121.toNat, 448]
def k0_off34 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v124 : Index := Scalar.indexCast arg12
  let c464 : Index := 464#32
  ![v124.toNat, 464]
def k0_off35 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v127 : Index := Scalar.indexCast arg12
  let c480 : Index := 480#32
  ![v127.toNat, 480]
def k0_off36 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v130 : Index := Scalar.indexCast arg12
  let c496 : Index := 496#32
  ![v130.toNat, 496]
def k0_off37 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v133 : Index := Scalar.indexCast arg12
  let c512 : Index := 512#32
  ![v133.toNat, 512]
def k0_off38 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v136 : Index := Scalar.indexCast arg12
  let c528 : Index := 528#32
  ![v136.toNat, 528]
def k0_off39 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v139 : Index := Scalar.indexCast arg12
  let c544 : Index := 544#32
  ![v139.toNat, 544]
def k0_off40 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v142 : Index := Scalar.indexCast arg12
  let c560 : Index := 560#32
  ![v142.toNat, 560]
def k0_off41 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v145 : Index := Scalar.indexCast arg12
  let c576 : Index := 576#32
  ![v145.toNat, 576]
def k0_off42 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v148 : Index := Scalar.indexCast arg12
  let c592 : Index := 592#32
  ![v148.toNat, 592]
def k0_off43 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v151 : Index := Scalar.indexCast arg12
  let c608 : Index := 608#32
  ![v151.toNat, 608]
def k0_off44 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v154 : Index := Scalar.indexCast arg12
  let c624 : Index := 624#32
  ![v154.toNat, 624]
def k0_off45 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v157 : Index := Scalar.indexCast arg12
  let c640 : Index := 640#32
  ![v157.toNat, 640]
def k0_off46 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v160 : Index := Scalar.indexCast arg12
  let c656 : Index := 656#32
  ![v160.toNat, 656]
def k0_off47 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v163 : Index := Scalar.indexCast arg12
  let c672 : Index := 672#32
  ![v163.toNat, 672]
def k0_off48 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v166 : Index := Scalar.indexCast arg12
  let c688 : Index := 688#32
  ![v166.toNat, 688]
def k0_off49 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v169 : Index := Scalar.indexCast arg12
  let c704 : Index := 704#32
  ![v169.toNat, 704]
def k0_off50 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v172 : Index := Scalar.indexCast arg12
  let c720 : Index := 720#32
  ![v172.toNat, 720]
def k0_off51 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v175 : Index := Scalar.indexCast arg12
  let c736 : Index := 736#32
  ![v175.toNat, 736]
def k0_off52 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v178 : Index := Scalar.indexCast arg12
  let c752 : Index := 752#32
  ![v178.toNat, 752]
def k0_off53 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v181 : Index := Scalar.indexCast arg12
  let c768 : Index := 768#32
  ![v181.toNat, 768]
def k0_off54 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v184 : Index := Scalar.indexCast arg12
  let c784 : Index := 784#32
  ![v184.toNat, 784]
def k0_off55 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v187 : Index := Scalar.indexCast arg12
  let c800 : Index := 800#32
  ![v187.toNat, 800]
def k0_off56 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v190 : Index := Scalar.indexCast arg12
  let c816 : Index := 816#32
  ![v190.toNat, 816]
def k0_off57 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v193 : Index := Scalar.indexCast arg12
  let c832 : Index := 832#32
  ![v193.toNat, 832]
def k0_off58 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v196 : Index := Scalar.indexCast arg12
  let c848 : Index := 848#32
  ![v196.toNat, 848]
def k0_off59 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v199 : Index := Scalar.indexCast arg12
  let c864 : Index := 864#32
  ![v199.toNat, 864]
def k0_off60 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v202 : Index := Scalar.indexCast arg12
  let c880 : Index := 880#32
  ![v202.toNat, 880]
def k0_off61 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v205 : Index := Scalar.indexCast arg12
  let c896 : Index := 896#32
  ![v205.toNat, 896]
def k0_off62 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v208 : Index := Scalar.indexCast arg12
  let c912 : Index := 912#32
  ![v208.toNat, 912]
def k0_off63 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v211 : Index := Scalar.indexCast arg12
  let c928 : Index := 928#32
  ![v211.toNat, 928]
def k0_off64 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v214 : Index := Scalar.indexCast arg12
  let c944 : Index := 944#32
  ![v214.toNat, 944]
def k0_off65 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v217 : Index := Scalar.indexCast arg12
  let c960 : Index := 960#32
  ![v217.toNat, 960]
def k0_off66 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v220 : Index := Scalar.indexCast arg12
  let c976 : Index := 976#32
  ![v220.toNat, 976]
def k0_off67 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v223 : Index := Scalar.indexCast arg12
  let c992 : Index := 992#32
  ![v223.toNat, 992]
def k0_off68 (k0_t3 : Fin k0_t3_loop.trips) : Fin 2 → Nat :=
  let c0_i32_22 : BitVec 32 := 0#32
  let c1_i32_24 : BitVec 32 := 1#32
  let arg12 : BitVec 32 := Scf.iv c0_i32_22 c1_i32_24 k0_t3
  let v226 : Index := Scalar.indexCast arg12
  let c1008 : Index := 1008#32
  ![v226.toNat, 1008]
def k0_off69 (k0_t2 : Fin k0_t2_loop.trips) (k0_t3 : Fin k0_t3_loop.trips) : Fin 1 → Nat :=
  let c2_i32_13 : BitVec 32 := 2#32
  let c0_i32_6 : BitVec 32 := 0#32
  let c1_i32_7 : BitVec 32 := 1#32
  let arg10 : BitVec 32 := Scf.iv c0_i32_6 c1_i32_7 k0_t2
  let v13 : BitVec 32 := Scalar.muli c2_i32_13 arg10
  let c32_i32_41 : BitVec 32 := 32#32
  let v236 : BitVec 32 := Scalar.muli v13 c32_i32_41
  let c0_i32_22 : BitVec 32 := 0#32
  let c1_i32_24 : BitVec 32 := 1#32
  let arg12 : BitVec 32 := Scf.iv c0_i32_22 c1_i32_24 k0_t3
  let v237 : BitVec 32 := Scalar.addi v236 arg12
  let c16_i32 : BitVec 32 := 16#32
  let v238 : BitVec 32 := Scalar.muli v237 c16_i32
  let v239 : Index := Scalar.indexCast v238
  ![v239.toNat]
def k0_cond1 (k0_t2 : Fin k0_t2_loop.trips) : BitVec 1 :=
  let c0_i32_6 : BitVec 32 := 0#32
  let c1_i32_7 : BitVec 32 := 1#32
  let arg10 : BitVec 32 := Scf.iv c0_i32_6 c1_i32_7 k0_t2
  let c7_i32 : BitVec 32 := 7#32
  let v25 : BitVec 1 := Scalar.cmpi .slt arg10 c7_i32
  let v26 : BitVec 32 := Scalar.extui v25
  let c0_i32_26 : BitVec 32 := 0#32
  let v27 : BitVec 1 := Scalar.cmpi .ne v26 c0_i32_26
  v27

def k0_off70 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_6 : BitVec 32 := 0#32
  let c1_i32_7 : BitVec 32 := 1#32
  let arg10 : BitVec 32 := Scf.iv c0_i32_6 c1_i32_7 k0_t2
  let v13 : BitVec 32 := Scalar.muli c2_i32_13 arg10
  let c2_i32_38 : BitVec 32 := 2#32
  let v36 : BitVec 32 := Scalar.addi v13 c2_i32_38
  let c32_i32_39 : BitVec 32 := 32#32
  let v37 : BitVec 32 := Scalar.muli v36 c32_i32_39
  let v38 : BitVec 32 := Scalar.addi v2 v37
  let c0_i32_40 : BitVec 32 := 0#32
  ![v38.toNat, 0]
@[reducible] def k0_t4_loop : Scf.Loop 32 :=
  let c0_i32_33 : BitVec 32 := 0#32
  let c32_i32_34 : BitVec 32 := 32#32
  let v34 : BitVec 32 := Scalar.addi c0_i32_33 c32_i32_34
  let c1_i32_35 : BitVec 32 := 1#32
  ⟨c0_i32_33, v34, c1_i32_35⟩
def k0_off71 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v37 : Index := Scalar.indexCast arg12
  let c0 : Index := 0#32
  ![v37.toNat, 0]
def k0_off72 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v40 : Index := Scalar.indexCast arg12
  let c16 : Index := 16#32
  ![v40.toNat, 16]
def k0_off73 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v43 : Index := Scalar.indexCast arg12
  let c32 : Index := 32#32
  ![v43.toNat, 32]
def k0_off74 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v46 : Index := Scalar.indexCast arg12
  let c48 : Index := 48#32
  ![v46.toNat, 48]
def k0_off75 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v49 : Index := Scalar.indexCast arg12
  let c64 : Index := 64#32
  ![v49.toNat, 64]
def k0_off76 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v52 : Index := Scalar.indexCast arg12
  let c80 : Index := 80#32
  ![v52.toNat, 80]
def k0_off77 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v55 : Index := Scalar.indexCast arg12
  let c96 : Index := 96#32
  ![v55.toNat, 96]
def k0_off78 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v58 : Index := Scalar.indexCast arg12
  let c112 : Index := 112#32
  ![v58.toNat, 112]
def k0_off79 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v61 : Index := Scalar.indexCast arg12
  let c128 : Index := 128#32
  ![v61.toNat, 128]
def k0_off80 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v64 : Index := Scalar.indexCast arg12
  let c144 : Index := 144#32
  ![v64.toNat, 144]
def k0_off81 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v67 : Index := Scalar.indexCast arg12
  let c160 : Index := 160#32
  ![v67.toNat, 160]
def k0_off82 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v70 : Index := Scalar.indexCast arg12
  let c176 : Index := 176#32
  ![v70.toNat, 176]
def k0_off83 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v73 : Index := Scalar.indexCast arg12
  let c192 : Index := 192#32
  ![v73.toNat, 192]
def k0_off84 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v76 : Index := Scalar.indexCast arg12
  let c208 : Index := 208#32
  ![v76.toNat, 208]
def k0_off85 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v79 : Index := Scalar.indexCast arg12
  let c224 : Index := 224#32
  ![v79.toNat, 224]
def k0_off86 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v82 : Index := Scalar.indexCast arg12
  let c240 : Index := 240#32
  ![v82.toNat, 240]
def k0_off87 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v85 : Index := Scalar.indexCast arg12
  let c256 : Index := 256#32
  ![v85.toNat, 256]
def k0_off88 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v88 : Index := Scalar.indexCast arg12
  let c272 : Index := 272#32
  ![v88.toNat, 272]
def k0_off89 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v91 : Index := Scalar.indexCast arg12
  let c288 : Index := 288#32
  ![v91.toNat, 288]
def k0_off90 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v94 : Index := Scalar.indexCast arg12
  let c304 : Index := 304#32
  ![v94.toNat, 304]
def k0_off91 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v97 : Index := Scalar.indexCast arg12
  let c320 : Index := 320#32
  ![v97.toNat, 320]
def k0_off92 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v100 : Index := Scalar.indexCast arg12
  let c336 : Index := 336#32
  ![v100.toNat, 336]
def k0_off93 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v103 : Index := Scalar.indexCast arg12
  let c352 : Index := 352#32
  ![v103.toNat, 352]
def k0_off94 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v106 : Index := Scalar.indexCast arg12
  let c368 : Index := 368#32
  ![v106.toNat, 368]
def k0_off95 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v109 : Index := Scalar.indexCast arg12
  let c384 : Index := 384#32
  ![v109.toNat, 384]
def k0_off96 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v112 : Index := Scalar.indexCast arg12
  let c400 : Index := 400#32
  ![v112.toNat, 400]
def k0_off97 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v115 : Index := Scalar.indexCast arg12
  let c416 : Index := 416#32
  ![v115.toNat, 416]
def k0_off98 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v118 : Index := Scalar.indexCast arg12
  let c432 : Index := 432#32
  ![v118.toNat, 432]
def k0_off99 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v121 : Index := Scalar.indexCast arg12
  let c448 : Index := 448#32
  ![v121.toNat, 448]
def k0_off100 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v124 : Index := Scalar.indexCast arg12
  let c464 : Index := 464#32
  ![v124.toNat, 464]
def k0_off101 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v127 : Index := Scalar.indexCast arg12
  let c480 : Index := 480#32
  ![v127.toNat, 480]
def k0_off102 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v130 : Index := Scalar.indexCast arg12
  let c496 : Index := 496#32
  ![v130.toNat, 496]
def k0_off103 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v133 : Index := Scalar.indexCast arg12
  let c512 : Index := 512#32
  ![v133.toNat, 512]
def k0_off104 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v136 : Index := Scalar.indexCast arg12
  let c528 : Index := 528#32
  ![v136.toNat, 528]
def k0_off105 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v139 : Index := Scalar.indexCast arg12
  let c544 : Index := 544#32
  ![v139.toNat, 544]
def k0_off106 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v142 : Index := Scalar.indexCast arg12
  let c560 : Index := 560#32
  ![v142.toNat, 560]
def k0_off107 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v145 : Index := Scalar.indexCast arg12
  let c576 : Index := 576#32
  ![v145.toNat, 576]
def k0_off108 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v148 : Index := Scalar.indexCast arg12
  let c592 : Index := 592#32
  ![v148.toNat, 592]
def k0_off109 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v151 : Index := Scalar.indexCast arg12
  let c608 : Index := 608#32
  ![v151.toNat, 608]
def k0_off110 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v154 : Index := Scalar.indexCast arg12
  let c624 : Index := 624#32
  ![v154.toNat, 624]
def k0_off111 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v157 : Index := Scalar.indexCast arg12
  let c640 : Index := 640#32
  ![v157.toNat, 640]
def k0_off112 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v160 : Index := Scalar.indexCast arg12
  let c656 : Index := 656#32
  ![v160.toNat, 656]
def k0_off113 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v163 : Index := Scalar.indexCast arg12
  let c672 : Index := 672#32
  ![v163.toNat, 672]
def k0_off114 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v166 : Index := Scalar.indexCast arg12
  let c688 : Index := 688#32
  ![v166.toNat, 688]
def k0_off115 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v169 : Index := Scalar.indexCast arg12
  let c704 : Index := 704#32
  ![v169.toNat, 704]
def k0_off116 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v172 : Index := Scalar.indexCast arg12
  let c720 : Index := 720#32
  ![v172.toNat, 720]
def k0_off117 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v175 : Index := Scalar.indexCast arg12
  let c736 : Index := 736#32
  ![v175.toNat, 736]
def k0_off118 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v178 : Index := Scalar.indexCast arg12
  let c752 : Index := 752#32
  ![v178.toNat, 752]
def k0_off119 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v181 : Index := Scalar.indexCast arg12
  let c768 : Index := 768#32
  ![v181.toNat, 768]
def k0_off120 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v184 : Index := Scalar.indexCast arg12
  let c784 : Index := 784#32
  ![v184.toNat, 784]
def k0_off121 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v187 : Index := Scalar.indexCast arg12
  let c800 : Index := 800#32
  ![v187.toNat, 800]
def k0_off122 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v190 : Index := Scalar.indexCast arg12
  let c816 : Index := 816#32
  ![v190.toNat, 816]
def k0_off123 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v193 : Index := Scalar.indexCast arg12
  let c832 : Index := 832#32
  ![v193.toNat, 832]
def k0_off124 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v196 : Index := Scalar.indexCast arg12
  let c848 : Index := 848#32
  ![v196.toNat, 848]
def k0_off125 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v199 : Index := Scalar.indexCast arg12
  let c864 : Index := 864#32
  ![v199.toNat, 864]
def k0_off126 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v202 : Index := Scalar.indexCast arg12
  let c880 : Index := 880#32
  ![v202.toNat, 880]
def k0_off127 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v205 : Index := Scalar.indexCast arg12
  let c896 : Index := 896#32
  ![v205.toNat, 896]
def k0_off128 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v208 : Index := Scalar.indexCast arg12
  let c912 : Index := 912#32
  ![v208.toNat, 912]
def k0_off129 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v211 : Index := Scalar.indexCast arg12
  let c928 : Index := 928#32
  ![v211.toNat, 928]
def k0_off130 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v214 : Index := Scalar.indexCast arg12
  let c944 : Index := 944#32
  ![v214.toNat, 944]
def k0_off131 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v217 : Index := Scalar.indexCast arg12
  let c960 : Index := 960#32
  ![v217.toNat, 960]
def k0_off132 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v220 : Index := Scalar.indexCast arg12
  let c976 : Index := 976#32
  ![v220.toNat, 976]
def k0_off133 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v223 : Index := Scalar.indexCast arg12
  let c992 : Index := 992#32
  ![v223.toNat, 992]
def k0_off134 (k0_t4 : Fin k0_t4_loop.trips) : Fin 2 → Nat :=
  let c0_i32_33 : BitVec 32 := 0#32
  let c1_i32_35 : BitVec 32 := 1#32
  let arg12 : BitVec 32 := Scf.iv c0_i32_33 c1_i32_35 k0_t4
  let v226 : Index := Scalar.indexCast arg12
  let c1008 : Index := 1008#32
  ![v226.toNat, 1008]
def k0_off135 (k0_t2 : Fin k0_t2_loop.trips) (k0_t4 : Fin k0_t4_loop.trips) : Fin 1 → Nat :=
  let c2_i32_13 : BitVec 32 := 2#32
  let c0_i32_6 : BitVec 32 := 0#32
  let c1_i32_7 : BitVec 32 := 1#32
  let arg10 : BitVec 32 := Scf.iv c0_i32_6 c1_i32_7 k0_t2
  let v13 : BitVec 32 := Scalar.muli c2_i32_13 arg10
  let c1_i32_31 : BitVec 32 := 1#32
  let v33 : BitVec 32 := Scalar.addi v13 c1_i32_31
  let c32_i32_41 : BitVec 32 := 32#32
  let v236 : BitVec 32 := Scalar.muli v33 c32_i32_41
  let c0_i32_33 : BitVec 32 := 0#32
  let c1_i32_35 : BitVec 32 := 1#32
  let arg12 : BitVec 32 := Scf.iv c0_i32_33 c1_i32_35 k0_t4
  let v237 : BitVec 32 := Scalar.addi v236 arg12
  let c16_i32 : BitVec 32 := 16#32
  let v238 : BitVec 32 := Scalar.muli v237 c16_i32
  let v239 : Index := Scalar.indexCast v238
  ![v239.toNat]
@[reducible] def k0_t5_loop : Scf.Loop 32 :=
  let c0_i32_10 : BitVec 32 := 0#32
  let c32_i32 : BitVec 32 := 32#32
  let v11 : BitVec 32 := Scalar.addi c0_i32_10 c32_i32
  let c1_i32_11 : BitVec 32 := 1#32
  ⟨c0_i32_10, v11, c1_i32_11⟩

def k0_chk1 (v20 : IVec S16 32) : Prop :=
  (∀ a x, ((![v20] : Fin 1 → IVec S16 32) a x).toNat < S8192.size a)
theorem k0_idx1_inb : ∀ (v20 : IVec S16 32) (k0_hw1 : k0_chk1 v20), ∀ a x, ((![v20] : Fin 1 → IVec S16 32) a x).toNat < S8192.size a := fun v20 k0_hw1 => k0_hw1

def k0_chk2 (v24 : IVec S16 32) : Prop :=
  (∀ a x, ((![v24] : Fin 1 → IVec S16 32) a x).toNat < S8192.size a)
theorem k0_idx2_inb : ∀ (v24 : IVec S16 32) (k0_hw2 : k0_chk2 v24), ∀ a x, ((![v24] : Fin 1 → IVec S16 32) a x).toNat < S8192.size a := fun v24 k0_hw2 => k0_hw2

def k0_chk3 (v28 : IVec S16 32) : Prop :=
  (∀ a x, ((![v28] : Fin 1 → IVec S16 32) a x).toNat < S8192.size a)
theorem k0_idx3_inb : ∀ (v28 : IVec S16 32) (k0_hw3 : k0_chk3 v28), ∀ a x, ((![v28] : Fin 1 → IVec S16 32) a x).toNat < S8192.size a := fun v28 k0_hw3 => k0_hw3

def k0_chk4 (v32 : IVec S16 32) : Prop :=
  (∀ a x, ((![v32] : Fin 1 → IVec S16 32) a x).toNat < S8192.size a)
theorem k0_idx4_inb : ∀ (v32 : IVec S16 32) (k0_hw4 : k0_chk4 v32), ∀ a x, ((![v32] : Fin 1 → IVec S16 32) a x).toNat < S8192.size a := fun v32 k0_hw4 => k0_hw4

def k0_chk5 (v36 : IVec S16 32) : Prop :=
  (∀ a x, ((![v36] : Fin 1 → IVec S16 32) a x).toNat < S8192.size a)
theorem k0_idx5_inb : ∀ (v36 : IVec S16 32) (k0_hw5 : k0_chk5 v36), ∀ a x, ((![v36] : Fin 1 → IVec S16 32) a x).toNat < S8192.size a := fun v36 k0_hw5 => k0_hw5

def k0_chk6 (v40 : IVec S16 32) : Prop :=
  (∀ a x, ((![v40] : Fin 1 → IVec S16 32) a x).toNat < S8192.size a)
theorem k0_idx6_inb : ∀ (v40 : IVec S16 32) (k0_hw6 : k0_chk6 v40), ∀ a x, ((![v40] : Fin 1 → IVec S16 32) a x).toNat < S8192.size a := fun v40 k0_hw6 => k0_hw6

def k0_chk7 (v44 : IVec S16 32) : Prop :=
  (∀ a x, ((![v44] : Fin 1 → IVec S16 32) a x).toNat < S8192.size a)
theorem k0_idx7_inb : ∀ (v44 : IVec S16 32) (k0_hw7 : k0_chk7 v44), ∀ a x, ((![v44] : Fin 1 → IVec S16 32) a x).toNat < S8192.size a := fun v44 k0_hw7 => k0_hw7

def k0_chk8 (v48 : IVec S16 32) : Prop :=
  (∀ a x, ((![v48] : Fin 1 → IVec S16 32) a x).toNat < S8192.size a)
theorem k0_idx8_inb : ∀ (v48 : IVec S16 32) (k0_hw8 : k0_chk8 v48), ∀ a x, ((![v48] : Fin 1 → IVec S16 32) a x).toNat < S8192.size a := fun v48 k0_hw8 => k0_hw8

def k0_chk9 (v52 : IVec S16 32) : Prop :=
  (∀ a x, ((![v52] : Fin 1 → IVec S16 32) a x).toNat < S8192.size a)
theorem k0_idx9_inb : ∀ (v52 : IVec S16 32) (k0_hw9 : k0_chk9 v52), ∀ a x, ((![v52] : Fin 1 → IVec S16 32) a x).toNat < S8192.size a := fun v52 k0_hw9 => k0_hw9

def k0_chk10 (v56 : IVec S16 32) : Prop :=
  (∀ a x, ((![v56] : Fin 1 → IVec S16 32) a x).toNat < S8192.size a)
theorem k0_idx10_inb : ∀ (v56 : IVec S16 32) (k0_hw10 : k0_chk10 v56), ∀ a x, ((![v56] : Fin 1 → IVec S16 32) a x).toNat < S8192.size a := fun v56 k0_hw10 => k0_hw10

def k0_chk11 (v60 : IVec S16 32) : Prop :=
  (∀ a x, ((![v60] : Fin 1 → IVec S16 32) a x).toNat < S8192.size a)
theorem k0_idx11_inb : ∀ (v60 : IVec S16 32) (k0_hw11 : k0_chk11 v60), ∀ a x, ((![v60] : Fin 1 → IVec S16 32) a x).toNat < S8192.size a := fun v60 k0_hw11 => k0_hw11

def k0_chk12 (v64 : IVec S16 32) : Prop :=
  (∀ a x, ((![v64] : Fin 1 → IVec S16 32) a x).toNat < S8192.size a)
theorem k0_idx12_inb : ∀ (v64 : IVec S16 32) (k0_hw12 : k0_chk12 v64), ∀ a x, ((![v64] : Fin 1 → IVec S16 32) a x).toNat < S8192.size a := fun v64 k0_hw12 => k0_hw12

def k0_chk13 (v68 : IVec S16 32) : Prop :=
  (∀ a x, ((![v68] : Fin 1 → IVec S16 32) a x).toNat < S8192.size a)
theorem k0_idx13_inb : ∀ (v68 : IVec S16 32) (k0_hw13 : k0_chk13 v68), ∀ a x, ((![v68] : Fin 1 → IVec S16 32) a x).toNat < S8192.size a := fun v68 k0_hw13 => k0_hw13

def k0_chk14 (v72 : IVec S16 32) : Prop :=
  (∀ a x, ((![v72] : Fin 1 → IVec S16 32) a x).toNat < S8192.size a)
theorem k0_idx14_inb : ∀ (v72 : IVec S16 32) (k0_hw14 : k0_chk14 v72), ∀ a x, ((![v72] : Fin 1 → IVec S16 32) a x).toNat < S8192.size a := fun v72 k0_hw14 => k0_hw14

def k0_chk15 (v76 : IVec S16 32) : Prop :=
  (∀ a x, ((![v76] : Fin 1 → IVec S16 32) a x).toNat < S8192.size a)
theorem k0_idx15_inb : ∀ (v76 : IVec S16 32) (k0_hw15 : k0_chk15 v76), ∀ a x, ((![v76] : Fin 1 → IVec S16 32) a x).toNat < S8192.size a := fun v76 k0_hw15 => k0_hw15

def k0_chk16 (v80 : IVec S16 32) : Prop :=
  (∀ a x, ((![v80] : Fin 1 → IVec S16 32) a x).toNat < S8192.size a)
theorem k0_idx16_inb : ∀ (v80 : IVec S16 32) (k0_hw16 : k0_chk16 v80), ∀ a x, ((![v80] : Fin 1 → IVec S16 32) a x).toNat < S8192.size a := fun v80 k0_hw16 => k0_hw16

def k0_chk17 (v93 : IVec S16 32) : Prop :=
  (∀ a x, ((![v93] : Fin 1 → IVec S16 32) a x).toNat < S4608.size a)
theorem k0_idx17_inb : ∀ (v93 : IVec S16 32) (k0_hw17 : k0_chk17 v93), ∀ a x, ((![v93] : Fin 1 → IVec S16 32) a x).toNat < S4608.size a := fun v93 k0_hw17 => k0_hw17
def k0_off136 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r0 : BitVec 32 := 0#32
  ![v1.toNat, 0]
abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k1_off2 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![1, v2.toNat]
def k1_off3 (i : grid1.Coords) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![2, v2.toNat]
def k1_off4 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![3, v2.toNat]
def k1_off5 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![4, v2.toNat]
def k1_off6 (i : grid1.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![5, v2.toNat]
def k1_off7 (i : grid1.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![6, v2.toNat]
def k1_off8 (i : grid1.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![7, v2.toNat]
def k1_off9 (i : grid1.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![8, v2.toNat]
def k1_off10 (i : grid1.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![9, v2.toNat]
def k1_off11 (i : grid1.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![10, v2.toNat]
def k1_off12 (i : grid1.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![11, v2.toNat]
def k1_off13 (i : grid1.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![12, v2.toNat]
def k1_off14 (i : grid1.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![13, v2.toNat]
def k1_off15 (i : grid1.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![14, v2.toNat]
def k1_off16 (i : grid1.Coords) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![15, v2.toNat]
def k1_off17 (i : grid1.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![16, v2.toNat]
def k1_off18 (i : grid1.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![17, v2.toNat]
def k1_off19 (i : grid1.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![18, v2.toNat]
def k1_off20 (i : grid1.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![19, v2.toNat]
def k1_off21 (i : grid1.Coords) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![20, v2.toNat]
def k1_off22 (i : grid1.Coords) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![21, v2.toNat]
def k1_off23 (i : grid1.Coords) : Fin 2 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![22, v2.toNat]
def k1_off24 (i : grid1.Coords) : Fin 2 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![23, v2.toNat]
def k1_off25 (i : grid1.Coords) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![24, v2.toNat]
def k1_off26 (i : grid1.Coords) : Fin 2 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![25, v2.toNat]
def k1_off27 (i : grid1.Coords) : Fin 2 → Nat :=
  let c26_i32 : BitVec 32 := 26#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![26, v2.toNat]
def k1_off28 (i : grid1.Coords) : Fin 2 → Nat :=
  let c27_i32 : BitVec 32 := 27#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![27, v2.toNat]
def k1_off29 (i : grid1.Coords) : Fin 2 → Nat :=
  let c28_i32 : BitVec 32 := 28#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![28, v2.toNat]
def k1_off30 (i : grid1.Coords) : Fin 2 → Nat :=
  let c29_i32 : BitVec 32 := 29#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![29, v2.toNat]
def k1_off31 (i : grid1.Coords) : Fin 2 → Nat :=
  let c30_i32 : BitVec 32 := 30#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![30, v2.toNat]
def k1_off32 (i : grid1.Coords) : Fin 2 → Nat :=
  let c31_i32 : BitVec 32 := 31#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![31, v2.toNat]
def k1_off33 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096 : Shape := ⟨1, ![4096]⟩
abbrev S16384x4096 : Shape := ⟨2, ![16384, 4096]⟩
abbrev S_ : Shape := ⟨0, ![]⟩
abbrev S16384 : Shape := ⟨1, ![16384]⟩
abbrev S4097 : Shape := ⟨1, ![4097]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096, .f32⟩
  | .hbm, ⟨1, _⟩ => ⟨S16384x4096, .i1⟩
  | .hbm, ⟨2, _⟩ => ⟨S16384x4096, .i32⟩
  | .hbm, ⟨3, _⟩ => ⟨S_, .i32⟩
  | .hbm, ⟨4, _⟩ => ⟨S16384, .i32⟩
  | .hbm, ⟨5, _⟩ => ⟨S_, .i32⟩
  | .hbm, ⟨6, _⟩ => ⟨S4097, .i32⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S_, .i32⟩
  | .hbm, ⟨20, _⟩ => ⟨S16384, .i32⟩
  | .hbm, ⟨21, _⟩ => ⟨S4097, .i32⟩
  | .hbm, ⟨22, _⟩ => ⟨S4096, .i32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Base.lean ====
/-
  The set-up both SparseCore calls share: the program as the launch theorem sees it, the resource algebra, the
  memrefs a tile's body is handed, the tile's thread.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

abbrev EH : Emb UH (MT nD τ sig (HIx 2) (Elt F) ℕ UU ℕ) := embL
abbrev EC : UEmb Counters (MT nD τ sig (HIx 2) (Elt F) ℕ UU ℕ) := countersEmb (U := UU)

/-! ## The first call's operands and buffers, as the body is handed them -/

abbrev a2 : Memref sig Kind.scVector Space.hbm S16384x1024 EltTy.i32 := Memref.whole main_v2_scv
abbrev a3 : Memref sig Kind.scVector Space.hbm S32x4608 EltTy.i32 := Memref.whole main_v3_scv
abbrev a4 : Memref sig Kind.scVector Space.vmem S32x1024 EltTy.i32 := Memref.whole cc0_scratch0
abbrev a5 : Memref sig Kind.scVector Space.vmem S32x1024 EltTy.i32 := Memref.whole cc0_scratch1
abbrev a6 : Memref sig Kind.scVector Space.vmem S8192 EltTy.i32 := Memref.whole cc0_scratch2
abbrev a7 : Memref sig Kind.scVector Space.vmem S4608 EltTy.i32 := Memref.whole cc0_scratch3

/-! ## A tile -/

section Tile0
variable (L : grid0.Coords)

/-- The SparseCore and the vector subcore at grid coordinates `L`, and the tile's number. -/
abbrev cV : Fin τ.nSC := (L 0).castLE hcore0
abbrev jV : Fin τ.nSub := (L 1).castLE hsub0
abbrev wid : ℕ := (L 1).val * 2 + (L 0).val

theorem wid_lt : wid L < 32 := by
  have h0 : (L 0).val < 2 := (L 0).isLt
  have h1 : (L 1).val < 16 := (L 1).isLt
  show (L 1).val * 2 + (L 0).val < 32
  omega

abbrev thr (d : Dev nD) : Thread nD τ := V d (cV L) (jV L)

end Tile0

end Cert.Proof
-- ==== Proof.Words.lean ====
/-
  What the first call counts, on 32-bit words: the tile's table of half-reduced lane sums, a row's length, its
  bin; and how a load of part of a buffer reads, by natural-number coordinates.
-/
module

public import proofs.«01_k».proof.Proof.Base
public import Idealize.ShloMosaic.Lib.Pipeline.Value

@[expose] public section

noncomputable section

namespace Cert.Proof

open Cert.KernelIdeal Cert.KernelIdeal.Gen
open Idealize.ShloMosaic

/-! ## Arrays of words by natural-number coordinates -/

def ix1 {n : ℕ} (k : ℕ) (h : k < n) : (⟨1, ![n]⟩ : Shape).Idx := Fin.cons ⟨k, h⟩ finZeroElim

def ix2 {n m : ℕ} (r k : ℕ) (h : r < n ∧ k < m) : (⟨2, ![n, m]⟩ : Shape).Idx :=
  Fin.cons ⟨r, h.1⟩ (Fin.cons ⟨k, h.2⟩ finZeroElim)

theorem ix1_val {n : ℕ} (k : ℕ) (h : k < n) : (ix1 k h 0).val = k := rfl

theorem ix1_coords {n : ℕ} (y : (⟨1, ![n]⟩ : Shape).Idx) : ix1 (y 0).val (y 0).isLt = y := by
  funext a; fin_cases a; rfl

theorem ix2_coords {n m : ℕ} (y : (⟨2, ![n, m]⟩ : Shape).Idx) : ix2 (y 0).val (y 1).val ⟨(y 0).isLt, (y 1).isLt⟩ = y := by
  funext a; fin_cases a <;> rfl

def at2 {n m : ℕ} (f : (⟨2, ![n, m]⟩ : Shape).Idx → BitVec 32) (r k : ℕ) : BitVec 32 :=
  if h : r < n ∧ k < m then f (ix2 r k h) else 0

def at1 {n : ℕ} (f : (⟨1, ![n]⟩ : Shape).Idx → BitVec 32) (k : ℕ) : BitVec 32 :=
  if h : k < n then f (ix1 k h) else 0

theorem at2_coords {n m : ℕ} (f : (⟨2, ![n, m]⟩ : Shape).Idx → BitVec 32) (y : (⟨2, ![n, m]⟩ : Shape).Idx) :
    at2 f (y 0).val (y 1).val = f y := by
  rw [at2, dif_pos ⟨(y 0).isLt, (y 1).isLt⟩]
  congr 1; funext a; fin_cases a <;> rfl

theorem at1_coords {n : ℕ} (f : (⟨1, ![n]⟩ : Shape).Idx → BitVec 32) (y : (⟨1, ![n]⟩ : Shape).Idx) :
    at1 f (y 0).val = f y := by
  rw [at1, dif_pos (show (y 0).val < n from (y 0).isLt)]
  congr 1; funext a; fin_cases a <;> rfl

theorem at2_eq {n m : ℕ} (f : (⟨2, ![n, m]⟩ : Shape).Idx → BitVec 32) (y : (⟨2, ![n, m]⟩ : Shape).Idx) {r k : ℕ}
    (hr : (y 0).val = r) (hk : (y 1).val = k) : f y = at2 f r k := by
  rw [← at2_coords f y, hr, hk]

theorem at1_eq {n : ℕ} (f : (⟨1, ![n]⟩ : Shape).Idx → BitVec 32) (y : (⟨1, ![n]⟩ : Shape).Idx) {k : ℕ}
    (hk : (y 0).val = k) : f y = at1 f k := by
  rw [← at1_coords f y, hk]

/-- One row of sixteen lanes loaded from a table of rows and reshaped to a vector. -/
theorem cast_row {n m w : ℕ} (f : (⟨2, ![n, m]⟩ : Shape).Idx → BitVec 32) (off : Fin 2 → ℕ)
    (h : ∀ a, off a + (![1, w] : Fin 2 → ℕ) a ≤ (⟨2, ![n, m]⟩ : Shape).size a)
    (hc : (⟨2, ![1, w]⟩ : Shape).ShapeCasts ⟨1, ![w]⟩) (x : (⟨1, ![w]⟩ : Shape).Idx) :
    shapeCast ⟨1, ![w]⟩ (fun y => f ((Rect.unit (s := ⟨2, ![n, m]⟩) off ![1, w] h).toLoadRect.idx y)) hc x
      = at2 f (off 0) (off 1 + (x 0).val) := by
  rw [shapeCast_dropUnit_apply ![w]]
  refine at2_eq f _ ?_ ?_
  · rw [LoadRect.idx_apply]; show off 0 + 1 * 0 = _; omega
  · rw [LoadRect.idx_apply]; show off 1 + 1 * (x 0).val = _; omega

/-! ## The counting arithmetic -/

/-- The sum of the first `n` words of a sequence. -/
def wsum (f : ℕ → BitVec 32) : ℕ → BitVec 32
  | 0 => 0#32
  | n + 1 => wsum f n + f n

/-- Byte sums of a word's even and odd bytes, added: a sum of sixteen-bit halves. -/
def red (a : BitVec 32) : BitVec 32 := (a &&& 16711935#32) + (a.sshiftRight 8 &&& 16711935#32)

/-- Lane `l`'s half-reduced sum over row `r` of a table of words. -/
def tval (G : ℕ → ℕ → BitVec 32) (r l : ℕ) : BitVec 32 := red (wsum (fun j => G r (16 * j + l)) 64)

/-- A row's length, of its sixteen half-reduced sums. -/
def lens (T : ℕ → BitVec 32) : BitVec 32 := (wsum T 16 &&& 65535#32) + (wsum T 16).sshiftRight 16

/-- The histogram bin of a length: length `n + 1` counts in bin `n`, length zero in bin 4096. -/
def binOf (n : BitVec 32) : BitVec 32 := if n = 0#32 then 4096#32 else n - 1#32

/-- The bin of row `r` of a table of words. -/
def bin (G : ℕ → ℕ → BitVec 32) (r : ℕ) : BitVec 32 := binOf (lens (tval G r))

end Cert.Proof
-- ==== Proof.Rows.lean ====
/-
  The loops of the first call that only load and store: zeroing the histogram, and reducing one fetched block of
  thirty-two rows to sixteen half-reduced sums a row.
-/
module

public import proofs.«01_k».proof.Proof.Words

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- One row of sixteen words stored into a flat table, read back. -/
theorem at1_writes {κ : Kind} {sp : Space} {n : ℕ} (v : View sig κ sp ⟨1, ![n]⟩ .i32) (f : v.ty.Contents (Elt F)) {off : Fin 1 → ℕ}
    {w : ℕ} (h : ∀ a, off a + (![w] : Fin 1 → ℕ) a ≤ (⟨1, ![n]⟩ : Shape).size a) (p : (⟨1, ![w]⟩ : Shape).Idx → BitVec 32) (k : ℕ) :
    at1 (n := n) (v.read (Elt F) (v.writes (Elt F) f [⟨Rect.unit off ![w] h, p⟩])) k
      = if off 0 ≤ k ∧ k < off 0 + w then at1 (n := w) p (k - off 0) else at1 (n := n) (v.read (Elt F) f) k := by
  have hb : off 0 + w ≤ n := h 0
  by_cases hk : k < n
  · rw [at1, dif_pos hk]
    split
    · rename_i hw
      rw [at1, dif_pos (show k - off 0 < w by omega)]
      refine View.read_writes_cons_hit_of_coords v f (Rect.unit off ![w] h) p [] _ _ fun a => ?_
      fin_cases a
      show k = off 0 + 1 * (k - off 0)
      omega
    · rename_i hw
      rw [View.read_writes_cons_miss_of_axis v f _ [] _ 0 (off 0) w rfl rfl rfl
        (show k < off 0 ∨ off 0 + w ≤ k by omega), at1, dif_pos hk]
      rfl
  · rw [at1, dif_neg hk, if_neg (by omega), at1, dif_neg hk]

/-- A row of lanes loaded from a table and reshaped to a vector, read at a lane. -/
theorem cast_read {κ : Kind} {sp : Space} {n m w : ℕ} (v : View sig κ sp ⟨2, ![n, m]⟩ .i32) (f : v.ty.Contents (Elt F)) (off : Fin 2 → ℕ)
    (h : ∀ a, off a + (![1, w] : Fin 2 → ℕ) a ≤ (⟨2, ![n, m]⟩ : Shape).size a)
    (hc : (⟨2, ![1, w]⟩ : Shape).ShapeCasts ⟨1, ![w]⟩) (x : (⟨1, ![w]⟩ : Shape).Idx) :
    shapeCast ⟨1, ![w]⟩ (v.readAt (Elt F) (Rect.unit (s := ⟨2, ![n, m]⟩) off ![1, w] h).toLoadRect f) hc x
      = at2 (n := n) (m := m) (v.read (Elt F) f) (off 0) (off 1 + (x 0).val) :=
  cast_row (v.read (Elt F) f) off h hc x

theorem shrsi_eight (a : BitVec 32) : IntOp.shrsi .vector a 8#32 = a.sshiftRight 8 := rfl

/-- One trip of the zeroing loop: sixteen more words of the histogram are zero. -/
theorem trip1 (d : Dev nD) (L : grid0.Coords) (t : Fin k0_t1_loop.trips) (b : BitVec 32)
    (fh : Buf (Elt F) (a7.view.loc (thr L d))) (hz : ∀ k, k < 16 * t.val → at1 (n := 4608) fh k = 0#32) :
    iprop((a7.view.loc (thr L d) ↦{fullShare} fh) : sProp 𝕄)
      ⊢ wp frame (wpE (defs₀ (F := F)) 𝒱₀ (thr L d) none) Set.univ
          (k0_t1_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t b)
          fun _ => iprop(∃ fh' : Buf (Elt F) (a7.view.loc (thr L d)),
            ⌜∀ k, k < 16 * (t.val + 1) → at1 (n := 4608) fh' k = 0#32⌝ ∗ (a7.view.loc (thr L d) ↦{fullShare} fh')) := by
  unfold k0_t1_body
  iintro H7
  sl_exec
  sl_step
  iexists _
  isplitr
  rotate_left
  · iexact H7
  ipureintro
  intro k hk
  refine (at1_writes a7.view fh _ _ k).trans ?_
  rw [k0_off1_eq]
  show (if 16 * t.val ≤ k ∧ k < 16 * t.val + 16 then _ else _) = _
  by_cases hw : 16 * t.val ≤ k ∧ k < 16 * t.val + 16
  · rw [if_pos hw]
    have hlt : k - 16 * t.val < 16 := by omega
    show at1 (n := 16) _ (k - 16 * t.val) = _
    rw [at1, dif_pos hlt]
    rfl
  · rw [if_neg hw]
    exact hz k (by omega)

/-- One trip over a row of the first of the two blocks: the row's sixteen half-reduced sums go to the table. -/
theorem trip3 (d : Dev nD) (L : grid0.Coords) (t2 : Fin k0_t2_loop.trips) (t3 : Fin k0_t3_loop.trips) (b : BitVec 32)
    (fa : Buf (Elt F) (a4.view.loc (thr L d))) (ft : Buf (Elt F) (a6.view.loc (thr L d))) :
    iprop((a4.view.loc (thr L d) ↦{fullShare} fa) ∗ (a6.view.loc (thr L d) ↦{fullShare} ft) : sProp 𝕄)
      ⊢ wp frame (wpE (defs₀ (F := F)) 𝒱₀ (thr L d) none) Set.univ
          (k0_t3_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t2 t3 b)
          fun _ => iprop((a4.view.loc (thr L d) ↦{fullShare} fa) ∗
            ∃ ft' : Buf (Elt F) (a6.view.loc (thr L d)), ⌜∀ k, at1 (n := 8192) ft' k
                = if 1024 * t2.val + 16 * t3.val ≤ k ∧ k < 1024 * t2.val + 16 * t3.val + 16
                  then tval (at2 (n := 32) (m := 1024) fa) t3.val (k - (1024 * t2.val + 16 * t3.val)) else at1 (n := 8192) ft k⌝ ∗
              (a6.view.loc (thr L d) ↦{fullShare} ft')) := by
  unfold k0_t3_body
  iintro ⟨H4, H6⟩
  sl_exec
  sl_step
  isplitl [H4]; · iexact H4
  iexists _
  isplitr
  rotate_left
  · iexact H6
  ipureintro
  intro k
  refine (at1_writes a6.view ft _ _ k).trans ?_
  rw [k0_off69_eq]
  show (if 1024 * t2.val + 16 * t3.val ≤ k ∧ k < 1024 * t2.val + 16 * t3.val + 16 then _ else _) = _
  by_cases hw : 1024 * t2.val + 16 * t3.val ≤ k ∧ k < 1024 * t2.val + 16 * t3.val + 16
  · rw [if_pos hw, if_pos hw]
    have hlt : k - (1024 * t2.val + 16 * t3.val) < 16 := by omega
    show at1 (n := 16) _ (k - (1024 * t2.val + 16 * t3.val)) = _
    rw [at1, dif_pos hlt]
    delta trip3.sl.v213 trip3.sl.v210 trip3.sl.v207 trip3.sl.v204 trip3.sl.v201 trip3.sl.v198 trip3.sl.v195 trip3.sl.v192 trip3.sl.v189 trip3.sl.v186 trip3.sl.v183 trip3.sl.v180 trip3.sl.v177 trip3.sl.v174 trip3.sl.v171 trip3.sl.v168 trip3.sl.v165 trip3.sl.v162 trip3.sl.v159 trip3.sl.v156 trip3.sl.v153 trip3.sl.v150 trip3.sl.v147 trip3.sl.v144 trip3.sl.v141 trip3.sl.v138 trip3.sl.v135 trip3.sl.v132 trip3.sl.v129 trip3.sl.v126 trip3.sl.v123 trip3.sl.v120 trip3.sl.v117 trip3.sl.v114 trip3.sl.v111 trip3.sl.v108 trip3.sl.v105 trip3.sl.v102 trip3.sl.v99 trip3.sl.v96 trip3.sl.v93 trip3.sl.v90 trip3.sl.v87 trip3.sl.v84 trip3.sl.v81 trip3.sl.v78 trip3.sl.v75 trip3.sl.v72 trip3.sl.v69 trip3.sl.v66 trip3.sl.v63 trip3.sl.v60 trip3.sl.v57 trip3.sl.v54 trip3.sl.v51 trip3.sl.v48 trip3.sl.v45 trip3.sl.v42 trip3.sl.v39 trip3.sl.v212 trip3.sl.v209 trip3.sl.v206 trip3.sl.v203 trip3.sl.v200 trip3.sl.v197 trip3.sl.v194 trip3.sl.v191 trip3.sl.v188 trip3.sl.v185 trip3.sl.v182 trip3.sl.v179 trip3.sl.v176 trip3.sl.v173 trip3.sl.v170 trip3.sl.v167 trip3.sl.v164 trip3.sl.v161 trip3.sl.v158 trip3.sl.v155 trip3.sl.v152 trip3.sl.v149 trip3.sl.v146 trip3.sl.v143 trip3.sl.v140 trip3.sl.v137 trip3.sl.v134 trip3.sl.v131 trip3.sl.v128 trip3.sl.v125 trip3.sl.v122 trip3.sl.v119 trip3.sl.v116 trip3.sl.v113 trip3.sl.v110 trip3.sl.v107 trip3.sl.v104 trip3.sl.v101 trip3.sl.v98 trip3.sl.v95 trip3.sl.v92 trip3.sl.v89 trip3.sl.v86 trip3.sl.v83 trip3.sl.v80 trip3.sl.v77 trip3.sl.v74 trip3.sl.v71 trip3.sl.v68 trip3.sl.v65 trip3.sl.v62 trip3.sl.v59 trip3.sl.v56 trip3.sl.v53 trip3.sl.v50 trip3.sl.v47 trip3.sl.v44 trip3.sl.v41 trip3.sl.v38 trip3.sl.v36
    simp only [k0_pay2, addi, andi, shrsi, broadcast, IntOp.addi, IntOp.andi]
    have H := fun off h x => cast_read (F := F) (n := 32) (m := 1024) (w := 16) (View.whole cc0_scratch0) fa off h shapeCasts_S1x16_S16 x
    simp only [H, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, Matrix.cons_val_zero, Matrix.cons_val_one, Matrix.cons_val_fin_one, ix1_val, View.read_whole, shrsi_eight]
    simp only [tval, red, wsum, Nat.reduceMul, BitVec.zero_add, Nat.zero_add]
  · rw [if_neg hw, if_neg hw]; rfl

/-- The same over a row of the second block. -/
theorem trip4 (d : Dev nD) (L : grid0.Coords) (t2 : Fin k0_t2_loop.trips) (t4 : Fin k0_t4_loop.trips) (b : BitVec 32)
    (fa : Buf (Elt F) (a5.view.loc (thr L d))) (ft : Buf (Elt F) (a6.view.loc (thr L d))) :
    iprop((a5.view.loc (thr L d) ↦{fullShare} fa) ∗ (a6.view.loc (thr L d) ↦{fullShare} ft) : sProp 𝕄)
      ⊢ wp frame (wpE (defs₀ (F := F)) 𝒱₀ (thr L d) none) Set.univ
          (k0_t4_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t2 t4 b)
          fun _ => iprop((a5.view.loc (thr L d) ↦{fullShare} fa) ∗
            ∃ ft' : Buf (Elt F) (a6.view.loc (thr L d)), ⌜∀ k, at1 (n := 8192) ft' k
                = if 1024 * t2.val + 16 * t4.val + 512 ≤ k ∧ k < 1024 * t2.val + 16 * t4.val + 512 + 16
                  then tval (at2 (n := 32) (m := 1024) fa) t4.val (k - (1024 * t2.val + 16 * t4.val + 512)) else at1 (n := 8192) ft k⌝ ∗
              (a6.view.loc (thr L d) ↦{fullShare} ft')) := by
  unfold k0_t4_body
  iintro ⟨H5, H6⟩
  sl_exec
  sl_step
  isplitl [H5]; · iexact H5
  iexists _
  isplitr
  rotate_left
  · iexact H6
  ipureintro
  intro k
  refine (at1_writes a6.view ft _ _ k).trans ?_
  rw [k0_off135_eq]
  show (if 1024 * t2.val + 16 * t4.val + 512 ≤ k ∧ k < 1024 * t2.val + 16 * t4.val + 512 + 16 then _ else _) = _
  by_cases hw : 1024 * t2.val + 16 * t4.val + 512 ≤ k ∧ k < 1024 * t2.val + 16 * t4.val + 512 + 16
  · rw [if_pos hw, if_pos hw]
    have hlt : k - (1024 * t2.val + 16 * t4.val + 512) < 16 := by omega
    show at1 (n := 16) _ (k - (1024 * t2.val + 16 * t4.val + 512)) = _
    rw [at1, dif_pos hlt]
    delta trip4.sl.v213 trip4.sl.v210 trip4.sl.v207 trip4.sl.v204 trip4.sl.v201 trip4.sl.v198 trip4.sl.v195 trip4.sl.v192 trip4.sl.v189 trip4.sl.v186 trip4.sl.v183 trip4.sl.v180 trip4.sl.v177 trip4.sl.v174 trip4.sl.v171 trip4.sl.v168 trip4.sl.v165 trip4.sl.v162 trip4.sl.v159 trip4.sl.v156 trip4.sl.v153 trip4.sl.v150 trip4.sl.v147 trip4.sl.v144 trip4.sl.v141 trip4.sl.v138 trip4.sl.v135 trip4.sl.v132 trip4.sl.v129 trip4.sl.v126 trip4.sl.v123 trip4.sl.v120 trip4.sl.v117 trip4.sl.v114 trip4.sl.v111 trip4.sl.v108 trip4.sl.v105 trip4.sl.v102 trip4.sl.v99 trip4.sl.v96 trip4.sl.v93 trip4.sl.v90 trip4.sl.v87 trip4.sl.v84 trip4.sl.v81 trip4.sl.v78 trip4.sl.v75 trip4.sl.v72 trip4.sl.v69 trip4.sl.v66 trip4.sl.v63 trip4.sl.v60 trip4.sl.v57 trip4.sl.v54 trip4.sl.v51 trip4.sl.v48 trip4.sl.v45 trip4.sl.v42 trip4.sl.v39 trip4.sl.v212 trip4.sl.v209 trip4.sl.v206 trip4.sl.v203 trip4.sl.v200 trip4.sl.v197 trip4.sl.v194 trip4.sl.v191 trip4.sl.v188 trip4.sl.v185 trip4.sl.v182 trip4.sl.v179 trip4.sl.v176 trip4.sl.v173 trip4.sl.v170 trip4.sl.v167 trip4.sl.v164 trip4.sl.v161 trip4.sl.v158 trip4.sl.v155 trip4.sl.v152 trip4.sl.v149 trip4.sl.v146 trip4.sl.v143 trip4.sl.v140 trip4.sl.v137 trip4.sl.v134 trip4.sl.v131 trip4.sl.v128 trip4.sl.v125 trip4.sl.v122 trip4.sl.v119 trip4.sl.v116 trip4.sl.v113 trip4.sl.v110 trip4.sl.v107 trip4.sl.v104 trip4.sl.v101 trip4.sl.v98 trip4.sl.v95 trip4.sl.v92 trip4.sl.v89 trip4.sl.v86 trip4.sl.v83 trip4.sl.v80 trip4.sl.v77 trip4.sl.v74 trip4.sl.v71 trip4.sl.v68 trip4.sl.v65 trip4.sl.v62 trip4.sl.v59 trip4.sl.v56 trip4.sl.v53 trip4.sl.v50 trip4.sl.v47 trip4.sl.v44 trip4.sl.v41 trip4.sl.v38 trip4.sl.v36
    simp only [k0_pay3, addi, andi, shrsi, broadcast, IntOp.addi, IntOp.andi]
    have H := fun off h x => cast_read (F := F) (n := 32) (m := 1024) (w := 16) (View.whole cc0_scratch1) fa off h shapeCasts_S1x16_S16 x
    simp only [H, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, Matrix.cons_val_zero, Matrix.cons_val_one, Matrix.cons_val_fin_one, ix1_val, View.read_whole, shrsi_eight]
    simp only [tval, red, wsum, Nat.reduceMul, BitVec.zero_add, Nat.zero_add]
  · rw [if_neg hw, if_neg hw]; rfl

end Cert.Proof
-- ==== Proof.Hist.lean ====
/-
  The histogram step: a masked scatter-add of a scan count adds, at each bin, the number of lanes that name it.
-/
module

public import proofs.«01_k».proof.Proof.Words

@[expose] public section

noncomputable section

namespace Cert.Proof

open Cert.KernelIdeal Cert.KernelIdeal.Gen
open Idealize.ShloMosaic

variable {F : FTy → Type} [FloatOps F]

/-- A fold that adds a natural number's word at each step. -/
theorem foldl_add_words {α : Type} (g : α → ℕ) (l : List α) (a : BitVec 32) :
    l.foldl (fun x k => x + BitVec.ofNat 32 (g k)) a = a + BitVec.ofNat 32 (l.map g).sum := by
  induction l generalizing a with
  | nil => simp
  | cons k l ih => rw [List.foldl_cons, ih, List.map_cons, List.sum_cons, BitVec.ofNat_add, BitVec.add_assoc]

/-- A fold of functions, at one point, when each step's value there depends on the value there only. -/
theorem foldl_at {α ι β : Type} (step : (ι → β) → α → ι → β) (j : ι) (s : β → α → β) (hs : ∀ g k, step g k j = s (g j) k)
    (l : List α) (f : ι → β) : l.foldl step f j = l.foldl s (f j) := by
  induction l generalizing f with
  | nil => rfl
  | cons k l ih => rw [List.foldl_cons, List.foldl_cons, ih, hs]

/-- Among lanes numbered in order, the last of those holding a value is counted with all of them. -/
theorem sum_last {n : ℕ} (p : Fin n → Prop) [DecidablePred p] :
    (∑ k, if p k ∧ ∀ j, k < j → ¬ p j then (Finset.univ.filter fun j => j ≤ k ∧ p j).card else 0) = (Finset.univ.filter p).card := by
  by_cases hp : ∃ k, p k
  · obtain ⟨k, hk⟩ := hp
    have hne : (Finset.univ.filter p).Nonempty := ⟨k, by simp [hk]⟩
    have hm : p ((Finset.univ.filter p).max' hne) := by
      have := (Finset.univ.filter p).max'_mem hne
      simpa using this
    have hmax : ∀ j, p j → j ≤ (Finset.univ.filter p).max' hne := fun j hj =>
      (Finset.univ.filter p).le_max' j (by simp [hj])
    rw [Finset.sum_eq_single ((Finset.univ.filter p).max' hne)]
    · rw [if_pos ⟨hm, fun j hj hpj => absurd (hmax j hpj) (not_le.mpr hj)⟩]
      congr 1
      ext j
      simp only [Finset.mem_filter, Finset.mem_univ, true_and]
      exact ⟨fun h => h.2, fun h => ⟨hmax j h, h⟩⟩
    · intro b _ hb
      rw [if_neg]
      rintro ⟨hpb, hlast⟩
      exact hlast _ (lt_of_le_of_ne (hmax b hpb) hb) hm
    · intro h; exact absurd (Finset.mem_univ _) h
  · rw [Finset.sum_eq_zero, Eq.comm, Finset.card_eq_zero, Finset.filter_eq_empty_iff]
    · exact fun {k} _ hk => hp ⟨k, hk⟩
    · intro k _; rw [if_neg]; exact fun h => hp ⟨k, h.1⟩

/-- The lanes of a vector of sixteen are its sixteen indices. -/
def lane16 : Fin 16 ≃ S16.Idx where
  toFun k := ix1 k.val k.isLt
  invFun y := y 0
  left_inv _ := rfl
  right_inv y := ix1_coords y

theorem scatter_scan {n : ℕ} (f : (⟨1, ![n]⟩ : Shape).Idx → BitVec 32) (v : IVec S16 32)
    (h : ∀ (a : Fin 1) x, ((![v] : Fin 1 → IVec S16 32) a x).toNat < (⟨1, ![n]⟩ : Shape).size a) (b : ℕ) :
    at1 (storeIdx (F := F) (e := .i32) (s := ⟨1, ![n]⟩) f ![v] (k0_pay7 v) (k0_pay6 v) true h) b
      = at1 f b + BitVec.ofNat 32 (Finset.univ.filter fun k : Fin 16 => (v (lane16 k)).toNat = b).card := by
  have hv : ∀ x, (v x).toNat < n := fun x => h 0 x
  by_cases hb : b < n
  swap
  · rw [at1, dif_neg hb, at1, dif_neg hb, Finset.filter_false_of_mem]
    · rfl
    · intro k _ hk; exact hb (hk ▸ hv _)
  rw [at1, dif_pos hb, at1, dif_pos hb]
  let p : Fin 16 → Prop := fun k => (v (lane16 k)).toNat = b
  let c : Fin 16 → ℕ := fun k => if p k ∧ ∀ j, k < j → ¬ p j then (Finset.univ.filter fun j => j ≤ k ∧ p j).card else 0
  have hpos : ∀ k : Fin 16, (S16.rowMajor (lane16 k)).val = k.val := fun k => Shape.rowMajor_val_one _
  have hlane : ∀ k : Fin 16, (Shape.ofLane (d := ![16]) k : S16.Idx) = lane16 k := fun k => by funext a; fin_cases a; rfl
  have hcard : ∀ k : Fin 16, (Finset.univ.filter fun j : S16.Idx => (S16.rowMajor j).val ≤ (S16.rowMajor (lane16 k)).val ∧
      k0_pay5 j = 1#1 ∧ v j = v (lane16 k)).card = (Finset.univ.filter fun j => j ≤ k ∧ v (lane16 j) = v (lane16 k)).card := fun k => by
    refine (Finset.card_bij (fun j _ => lane16 j) ?_ ?_ ?_).symm
    · intro j hj
      simp only [Finset.mem_filter, Finset.mem_univ, true_and, hpos] at hj ⊢
      exact ⟨hj.1, rfl, hj.2⟩
    · intro j _ j' _ hj; exact lane16.injective hj
    · intro y hy
      refine ⟨lane16.symm y, ?_, lane16.apply_symm_apply y⟩
      simp only [Finset.mem_filter, Finset.mem_univ, true_and] at hy ⊢
      rw [← lane16.apply_symm_apply y, hpos, hpos] at hy
      exact ⟨hy.1, hy.2.2⟩
  refine (foldl_at _ (ix1 b hb) (fun x k => x + BitVec.ofNat 32 (c k)) ?_ (List.finRange 16) f).trans ?_
  swap
  · rw [foldl_add_words, ← Fin.sum_univ_def, sum_last p]
  intro g k
  show (if k0_pay6 v (Shape.ofLane (d := ![16]) k) = 1 then _ else g) (ix1 b hb) = _
  rw [hlane k]
  have hmask : (k0_pay6 v (lane16 k) = 1) ↔ ∀ j, k < j → v (lane16 j) ≠ v (lane16 k) := by
    constructor
    · intro h1
      by_contra hn
      have h0 : k0_pay6 v (lane16 k) = 0 := if_neg fun h2 => hn fun j hj he =>
        h2.2 (lane16 j) (by show (S16.rowMajor _).val < (S16.rowMajor _).val; rw [hpos, hpos]; exact hj) ⟨rfl, he⟩
      rw [h0] at h1
      exact absurd h1 (by decide)
    · intro h1
      refine if_pos ⟨rfl, fun j hj hh => ?_⟩
      have hj : (S16.rowMajor (lane16 k)).val < (S16.rowMajor j).val := hj
      rw [← lane16.apply_symm_apply j, hpos, hpos] at hj
      exact h1 (lane16.symm j) hj (by rw [lane16.apply_symm_apply]; exact hh.2)
  have hcount : k0_pay7 v (lane16 k) = BitVec.ofNat 32 (Finset.univ.filter fun j => j ≤ k ∧ v (lane16 j) = v (lane16 k)).card := by
    rw [← hcard k]; rfl
  have hc : c k = if p k ∧ ∀ j, k < j → v (lane16 j) ≠ v (lane16 k) then
      (Finset.univ.filter fun j => j ≤ k ∧ v (lane16 j) = v (lane16 k)).card else 0 := by
    by_cases hk : p k
    · have hp : ∀ j, p j ↔ v (lane16 j) = v (lane16 k) := fun j =>
        ⟨fun hj => BitVec.eq_of_toNat_eq (hj.trans hk.symm), fun hj => (congrArg BitVec.toNat hj).trans hk⟩
      simp only [c, hp, ne_eq]
    · simp only [c, hk, false_and, if_false]
  rw [hc]
  by_cases hm : k0_pay6 v (lane16 k) = 1
  · rw [if_pos hm]
    have hm' := hmask.mp hm
    by_cases hk : p k
    · have he : idxAt ![v] h (lane16 k) = ix1 b hb := by funext a; fin_cases a; exact Fin.ext hk
      refine (if_pos fun a => by rw [he]).trans ?_
      show g (idxAt ![v] h (lane16 k)) + k0_pay7 v (lane16 k) = _
      rw [he, if_pos ⟨hk, hm'⟩, hcount]
    · refine (if_neg fun ha => hk (ha 0).symm).trans ?_
      rw [if_neg fun ha => hk ha.1]
      simp
  · rw [if_neg hm, if_neg fun ha => hm (hmask.mpr ha.2)]
    simp

end Cert.Proof
-- ==== Proof.Gather.lean ====
/-
  The last loop of the first call: sixteen rows' half-reduced sums gathered lane by lane, their lengths, and the
  scatter of the lengths' bins into the histogram.
-/
module

public import proofs.«01_k».proof.Proof.Hist

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A gather's index vector at lane `x`, offset `k`: lane `x` reads word `k` of row `16 t + x`. -/
theorem gidx_val (t : Fin k0_t5_loop.trips) (k : ℕ) (hk : k < 16) (x : S16.Idx) :
    (addi (k0_pay18 (iota .scVector S16 32 [0] iota_S16_d0_w32_scVector) 0#32 1#32 t) (broadcast S16 (BitVec.ofNat 32 k)) x).toNat
      = 16 * (16 * t.val + (x 0).val) + k := by
  have ht : t.val < 32 := t.isLt
  have hx : (x 0).val < 16 := (x 0).isLt
  show (((0#32 + BitVec.ofNat 32 t.val * 1#32) * 256#32 + iota .scVector S16 32 [0] iota_S16_d0_w32_scVector x * 16#32) + BitVec.ofNat 32 k).toNat = _
  rw [iota_single_apply]
  simp only [BitVec.toNat_add, BitVec.toNat_mul, BitVec.toNat_ofNat]
  omega

theorem gidx_lt (t : Fin k0_t5_loop.trips) (k : ℕ) (hk : k < 16) (x : S16.Idx) :
    16 * (16 * t.val + (x 0).val) + k < 8192 := by
  have ht : t.val < 32 := t.isLt
  have hx : (x 0).val < 16 := (x 0).isLt
  omega

/-- The whole table of half-reduced sums loaded. -/
theorem wp_load6 (d : Dev nD) (L : grid0.Coords) (ft : Buf (Elt F) (a6.view.loc (thr L d)))
    {hl : a6.view.LoadsAt (LoadRect.whole S8192)} {α : Type}
    {k : (S8192.Idx → BitVec 32) → Prog (TpuEff nD τ sig (Elt F) Λ₀ (.scVector (cV L) (jV L))) α} {Q : α → sProp 𝕄} :
    ((a6.view.loc (thr L d) ↦{fullShare} ft) : sProp 𝕄)
      ⊢ iprop(((a6.view.loc (thr L d) ↦{fullShare} ft) -∗ wp frame (wpE (defs₀ (F := F)) 𝒱₀ (thr L d) none) Set.univ (k ft) Q)
        -∗ wp frame (wpE (defs₀ (F := F)) 𝒱₀ (thr L d) none) Set.univ (.op (.load a6 (LoadRect.whole S8192) hl) k) Q) := by
  have h := wp_load_rect (Γ := .empty) (defs := defs₀ (F := F)) 𝒱₀ (thr L d) none Set.univ (m := a6) (r := Rect.whole S8192) (hl := hl) (k := k) (Q := Q)
    (S := Finset.univ) (q := fullShare) (f := ft) (Finset.subset_univ _)
  rw [show (a6.access (Rect.whole S8192)).read (Elt F) ft = ft from Memref.read_access_whole (Elt F) cc0_scratch2 ft] at h
  exact h

/-- The whole histogram loaded. -/
theorem wp_load7 (d : Dev nD) (L : grid0.Coords) (ft : Buf (Elt F) (a7.view.loc (thr L d)))
    {hl : a7.view.LoadsAt (LoadRect.whole S4608)} {α : Type}
    {k : (S4608.Idx → BitVec 32) → Prog (TpuEff nD τ sig (Elt F) Λ₀ (.scVector (cV L) (jV L))) α} {Q : α → sProp 𝕄} :
    ((a7.view.loc (thr L d) ↦{fullShare} ft) : sProp 𝕄)
      ⊢ iprop(((a7.view.loc (thr L d) ↦{fullShare} ft) -∗ wp frame (wpE (defs₀ (F := F)) 𝒱₀ (thr L d) none) Set.univ (k ft) Q)
        -∗ wp frame (wpE (defs₀ (F := F)) 𝒱₀ (thr L d) none) Set.univ (.op (.load a7 (LoadRect.whole S4608) hl) k) Q) := by
  have h := wp_load_rect (Γ := .empty) (defs := defs₀ (F := F)) 𝒱₀ (thr L d) none Set.univ (m := a7) (r := Rect.whole S4608) (hl := hl) (k := k) (Q := Q)
    (S := Finset.univ) (q := fullShare) (f := ft) (Finset.subset_univ _)
  rw [show (a7.access (Rect.whole S4608)).read (Elt F) ft = ft from Memref.read_access_whole (Elt F) cc0_scratch3 ft] at h
  exact h

/-- The whole histogram stored. -/
theorem wp_store7 (d : Dev nD) (L : grid0.Coords) (fh : Buf (Elt F) (a7.view.loc (thr L d))) (w : S4608.Idx → BitVec 32)
    {hx : (a7.access (Rect.whole S4608)).Stores Finset.univ} {hm : Finset.univ = Finset.univ ∨ ∀ a, (Rect.whole S4608).stride a = 1} {α : Type}
    {k : PUnit → Prog (TpuEff nD τ sig (Elt F) Λ₀ (.scVector (cV L) (jV L))) α} {Q : α → sProp 𝕄} :
    ((a7.view.loc (thr L d) ↦{fullShare} fh) : sProp 𝕄)
      ⊢ iprop(((a7.view.loc (thr L d) ↦{fullShare} (w : Buf (Elt F) (a7.view.loc (thr L d))))
          -∗ wp frame (wpE (defs₀ (F := F)) 𝒱₀ (thr L d) none) Set.univ (k ⟨⟩) Q)
        -∗ wp frame (wpE (defs₀ (F := F)) 𝒱₀ (thr L d) none) Set.univ (.op (.store a7 (Rect.whole S4608) w Finset.univ hx hm) k) Q) := by
  have h := wp_store (Γ := .empty) (defs := defs₀ (F := F)) 𝒱₀ (thr L d) none Set.univ (m := a7) (r := Rect.whole S4608) (w := w) (Mk := Finset.univ)
    (hx := hx) (hm := hm) (k := k) (Q := Q) (S := Finset.univ) (f := fh) (Finset.subset_univ _)
  rw [show (a7.access (Rect.whole S4608)).write (Elt F) fh w Finset.univ = w from
    Memref.write_access_whole_univ (Elt F) cc0_scratch3 fh w] at h
  exact h

theorem shrsi_sixteen (a : BitVec 32) : IntOp.shrsi .vector a 16#32 = a.sshiftRight 16 := rfl

theorem load_at (ft : S8192.Idx → BitVec 32) (v : IVec S16 32)
    (h : ∀ (a : Fin S8192.rank) x, ((![v] : Fin 1 → IVec S16 32) a x).toNat < S8192.size a) (x : S16.Idx) :
    loadIdx (F := F) (s := S8192) (e := .i32) ft ![v] h x = at1 (n := 8192) ft (v x).toNat :=
  at1_eq (n := 8192) ft (idxAt (s := S8192) ![v] h x) rfl

/-- The bins of rows `16 t … 16 t + 15`. -/
def bins (ft : ℕ → BitVec 32) (t : ℕ) : IVec S16 32 := fun x => binOf (lens fun l => ft (16 * (16 * t + (x 0).val) + l))

set_option maxHeartbeats 4000000 in
/-- One trip of the last loop: the bins of sixteen rows are counted. -/
theorem trip5 (d : Dev nD) (L : grid0.Coords) (t : Fin k0_t5_loop.trips) (b : BitVec 32)
    (ft : Buf (Elt F) (a6.view.loc (thr L d))) (fh : Buf (Elt F) (a7.view.loc (thr L d)))
    (hb : ∀ x, (bins (at1 (n := 8192) ft) t.val x).toNat < 4608) :
    iprop((a6.view.loc (thr L d) ↦{fullShare} ft) ∗ (a7.view.loc (thr L d) ↦{fullShare} fh) : sProp 𝕄)
      ⊢ wp frame (wpE (defs₀ (F := F)) 𝒱₀ (thr L d) none) Set.univ
          (k0_t5_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0
            (iota .scVector S16 32 [0] iota_S16_d0_w32_scVector) t b)
          fun _ => iprop((a6.view.loc (thr L d) ↦{fullShare} ft) ∗
            ∃ fh' : Buf (Elt F) (a7.view.loc (thr L d)),
              ⌜∀ n, at1 (n := 4608) fh' n = at1 (n := 4608) fh n
                + BitVec.ofNat 32 (Finset.univ.filter fun k : Fin 16 => (bins (at1 (n := 8192) ft) t.val (lane16 k)).toNat = n).card⌝ ∗
              (a7.view.loc (thr L d) ↦{fullShare} fh')) := by
  unfold k0_t5_body
  simp only [k0_part11_eq_skeleton, k0_part12_eq_skeleton]
  unfold k0_part11_skel k0_part12_skel
  simp only [Prog.lift, Prog.bind_op, Prog.bind_ret, Prog.pure_eq_ret]
  iintro ⟨H6, H7⟩
  have hv0 : ∀ x, ((k0_pay19 (iota .scVector S16 32 [0] iota_S16_d0_w32_scVector) 0#32 1#32 t) x).toNat < 8192 := fun x => lt_of_eq_of_lt (gidx_val t 0 (by omega) x) (gidx_lt t 0 (by omega) x)
  have hc0 : k0_chk1 (k0_pay19 (iota .scVector S16 32 [0] iota_S16_d0_w32_scVector) 0#32 1#32 t) := fun a x => by fin_cases a; exact hv0 x
  have hv1 : ∀ x, ((k0_pay20 (iota .scVector S16 32 [0] iota_S16_d0_w32_scVector) 0#32 1#32 t) x).toNat < 8192 := fun x => lt_of_eq_of_lt (gidx_val t 1 (by omega) x) (gidx_lt t 1 (by omega) x)
  have hc1 : k0_chk2 (k0_pay20 (iota .scVector S16 32 [0] iota_S16_d0_w32_scVector) 0#32 1#32 t) := fun a x => by fin_cases a; exact hv1 x
  have hv2 : ∀ x, ((k0_pay21 (iota .scVector S16 32 [0] iota_S16_d0_w32_scVector) 0#32 1#32 t) x).toNat < 8192 := fun x => lt_of_eq_of_lt (gidx_val t 2 (by omega) x) (gidx_lt t 2 (by omega) x)
  have hc2 : k0_chk3 (k0_pay21 (iota .scVector S16 32 [0] iota_S16_d0_w32_scVector) 0#32 1#32 t) := fun a x => by fin_cases a; exact hv2 x
  have hv3 : ∀ x, ((k0_pay22 (iota .scVector S16 32 [0] iota_S16_d0_w32_scVector) 0#32 1#32 t) x).toNat < 8192 := fun x => lt_of_eq_of_lt (gidx_val t 3 (by omega) x) (gidx_lt t 3 (by omega) x)
  have hc3 : k0_chk4 (k0_pay22 (iota .scVector S16 32 [0] iota_S16_d0_w32_scVector) 0#32 1#32 t) := fun a x => by fin_cases a; exact hv3 x
  have hv4 : ∀ x, ((k0_pay23 (iota .scVector S16 32 [0] iota_S16_d0_w32_scVector) 0#32 1#32 t) x).toNat < 8192 := fun x => lt_of_eq_of_lt (gidx_val t 4 (by omega) x) (gidx_lt t 4 (by omega) x)
  have hc4 : k0_chk5 (k0_pay23 (iota .scVector S16 32 [0] iota_S16_d0_w32_scVector) 0#32 1#32 t) := fun a x => by fin_cases a; exact hv4 x
  have hv5 : ∀ x, ((k0_pay24 (iota .scVector S16 32 [0] iota_S16_d0_w32_scVector) 0#32 1#32 t) x).toNat < 8192 := fun x => lt_of_eq_of_lt (gidx_val t 5 (by omega) x) (gidx_lt t 5 (by omega) x)
  have hc5 : k0_chk6 (k0_pay24 (iota .scVector S16 32 [0] iota_S16_d0_w32_scVector) 0#32 1#32 t) := fun a x => by fin_cases a; exact hv5 x
  have hv6 : ∀ x, ((k0_pay25 (iota .scVector S16 32 [0] iota_S16_d0_w32_scVector) 0#32 1#32 t) x).toNat < 8192 := fun x => lt_of_eq_of_lt (gidx_val t 6 (by omega) x) (gidx_lt t 6 (by omega) x)
  have hc6 : k0_chk7 (k0_pay25 (iota .scVector S16 32 [0] iota_S16_d0_w32_scVector) 0#32 1#32 t) := fun a x => by fin_cases a; exact hv6 x
  have hv7 : ∀ x, ((k0_pay26 (iota .scVector S16 32 [0] iota_S16_d0_w32_scVector) 0#32 1#32 t) x).toNat < 8192 := fun x => lt_of_eq_of_lt (gidx_val t 7 (by omega) x) (gidx_lt t 7 (by omega) x)
  have hc7 : k0_chk8 (k0_pay26 (iota .scVector S16 32 [0] iota_S16_d0_w32_scVector) 0#32 1#32 t) := fun a x => by fin_cases a; exact hv7 x
  have hv8 : ∀ x, ((addi (k0_pay18 (iota .scVector S16 32 [0] iota_S16_d0_w32_scVector) 0#32 1#32 t) k0_pay28) x).toNat < 8192 := fun x => lt_of_eq_of_lt (gidx_val t 8 (by omega) x) (gidx_lt t 8 (by omega) x)
  have hc8 : k0_chk9 (addi (k0_pay18 (iota .scVector S16 32 [0] iota_S16_d0_w32_scVector) 0#32 1#32 t) k0_pay28) := fun a x => by fin_cases a; exact hv8 x
  have hv9 : ∀ x, ((k0_pay29 (k0_pay18 (iota .scVector S16 32 [0] iota_S16_d0_w32_scVector) 0#32 1#32 t)) x).toNat < 8192 := fun x => lt_of_eq_of_lt (gidx_val t 9 (by omega) x) (gidx_lt t 9 (by omega) x)
  have hc9 : k0_chk10 (k0_pay29 (k0_pay18 (iota .scVector S16 32 [0] iota_S16_d0_w32_scVector) 0#32 1#32 t)) := fun a x => by fin_cases a; exact hv9 x
  have hv10 : ∀ x, ((k0_pay30 (k0_pay18 (iota .scVector S16 32 [0] iota_S16_d0_w32_scVector) 0#32 1#32 t)) x).toNat < 8192 := fun x => lt_of_eq_of_lt (gidx_val t 10 (by omega) x) (gidx_lt t 10 (by omega) x)
  have hc10 : k0_chk11 (k0_pay30 (k0_pay18 (iota .scVector S16 32 [0] iota_S16_d0_w32_scVector) 0#32 1#32 t)) := fun a x => by fin_cases a; exact hv10 x
  have hv11 : ∀ x, ((k0_pay31 (k0_pay18 (iota .scVector S16 32 [0] iota_S16_d0_w32_scVector) 0#32 1#32 t)) x).toNat < 8192 := fun x => lt_of_eq_of_lt (gidx_val t 11 (by omega) x) (gidx_lt t 11 (by omega) x)
  have hc11 : k0_chk12 (k0_pay31 (k0_pay18 (iota .scVector S16 32 [0] iota_S16_d0_w32_scVector) 0#32 1#32 t)) := fun a x => by fin_cases a; exact hv11 x
  have hv12 : ∀ x, ((k0_pay32 (k0_pay18 (iota .scVector S16 32 [0] iota_S16_d0_w32_scVector) 0#32 1#32 t)) x).toNat < 8192 := fun x => lt_of_eq_of_lt (gidx_val t 12 (by omega) x) (gidx_lt t 12 (by omega) x)
  have hc12 : k0_chk13 (k0_pay32 (k0_pay18 (iota .scVector S16 32 [0] iota_S16_d0_w32_scVector) 0#32 1#32 t)) := fun a x => by fin_cases a; exact hv12 x
  have hv13 : ∀ x, ((k0_pay33 (k0_pay18 (iota .scVector S16 32 [0] iota_S16_d0_w32_scVector) 0#32 1#32 t)) x).toNat < 8192 := fun x => lt_of_eq_of_lt (gidx_val t 13 (by omega) x) (gidx_lt t 13 (by omega) x)
  have hc13 : k0_chk14 (k0_pay33 (k0_pay18 (iota .scVector S16 32 [0] iota_S16_d0_w32_scVector) 0#32 1#32 t)) := fun a x => by fin_cases a; exact hv13 x
  have hv14 : ∀ x, ((k0_pay34 (k0_pay18 (iota .scVector S16 32 [0] iota_S16_d0_w32_scVector) 0#32 1#32 t)) x).toNat < 8192 := fun x => lt_of_eq_of_lt (gidx_val t 14 (by omega) x) (gidx_lt t 14 (by omega) x)
  have hc14 : k0_chk15 (k0_pay34 (k0_pay18 (iota .scVector S16 32 [0] iota_S16_d0_w32_scVector) 0#32 1#32 t)) := fun a x => by fin_cases a; exact hv14 x
  have hv15 : ∀ x, ((k0_pay35 (k0_pay18 (iota .scVector S16 32 [0] iota_S16_d0_w32_scVector) 0#32 1#32 t)) x).toNat < 8192 := fun x => lt_of_eq_of_lt (gidx_val t 15 (by omega) x) (gidx_lt t 15 (by omega) x)
  have hc15 : k0_chk16 (k0_pay35 (k0_pay18 (iota .scVector S16 32 [0] iota_S16_d0_w32_scVector) 0#32 1#32 t)) := fun a x => by fin_cases a; exact hv15 x
  unfold SparseCore.vectorLoadIdx SparseCore.vectorStoreIdx
  simp only [Prog.bind_op, Prog.bind_ret]
  rw [wp_assume_of _ _ _ _ hc0]
  iapply (wp_load6 d L ft) $$ H6; iintro H6
  rw [wp_assume_of _ _ _ _ hc1]
  iapply (wp_load6 d L ft) $$ H6; iintro H6
  rw [wp_assume_of _ _ _ _ hc2]
  iapply (wp_load6 d L ft) $$ H6; iintro H6
  rw [wp_assume_of _ _ _ _ hc3]
  iapply (wp_load6 d L ft) $$ H6; iintro H6
  rw [wp_assume_of _ _ _ _ hc4]
  iapply (wp_load6 d L ft) $$ H6; iintro H6
  rw [wp_assume_of _ _ _ _ hc5]
  iapply (wp_load6 d L ft) $$ H6; iintro H6
  rw [wp_assume_of _ _ _ _ hc6]
  iapply (wp_load6 d L ft) $$ H6; iintro H6
  rw [wp_assume_of _ _ _ _ hc7]
  iapply (wp_load6 d L ft) $$ H6; iintro H6
  rw [wp_assume_of _ _ _ _ hc8]
  iapply (wp_load6 d L ft) $$ H6; iintro H6
  rw [wp_assume_of _ _ _ _ hc9]
  iapply (wp_load6 d L ft) $$ H6; iintro H6
  rw [wp_assume_of _ _ _ _ hc10]
  iapply (wp_load6 d L ft) $$ H6; iintro H6
  rw [wp_assume_of _ _ _ _ hc11]
  iapply (wp_load6 d L ft) $$ H6; iintro H6
  rw [wp_assume_of _ _ _ _ hc12]
  iapply (wp_load6 d L ft) $$ H6; iintro H6
  rw [wp_assume_of _ _ _ _ hc13]
  iapply (wp_load6 d L ft) $$ H6; iintro H6
  rw [wp_assume_of _ _ _ _ hc14]
  iapply (wp_load6 d L ft) $$ H6; iintro H6
  rw [wp_assume_of _ _ _ _ hc15]
  iapply (wp_load6 d L ft) $$ H6; iintro H6
  generalize hV : k0_pay4 _ _ _ = V
  have hVb : V = bins (at1 (n := 8192) ft) t.val := by
    rw [← hV]
    funext x
    have hg0 : ((k0_pay19 (iota .scVector S16 32 [0] iota_S16_d0_w32_scVector) 0#32 1#32 t) x).toNat = 16 * (16 * t.val + (x 0).val) + 0 := gidx_val t 0 (by omega) x
    have hg1 : ((k0_pay20 (iota .scVector S16 32 [0] iota_S16_d0_w32_scVector) 0#32 1#32 t) x).toNat = 16 * (16 * t.val + (x 0).val) + 1 := gidx_val t 1 (by omega) x
    have hg2 : ((k0_pay21 (iota .scVector S16 32 [0] iota_S16_d0_w32_scVector) 0#32 1#32 t) x).toNat = 16 * (16 * t.val + (x 0).val) + 2 := gidx_val t 2 (by omega) x
    have hg3 : ((k0_pay22 (iota .scVector S16 32 [0] iota_S16_d0_w32_scVector) 0#32 1#32 t) x).toNat = 16 * (16 * t.val + (x 0).val) + 3 := gidx_val t 3 (by omega) x
    have hg4 : ((k0_pay23 (iota .scVector S16 32 [0] iota_S16_d0_w32_scVector) 0#32 1#32 t) x).toNat = 16 * (16 * t.val + (x 0).val) + 4 := gidx_val t 4 (by omega) x
    have hg5 : ((k0_pay24 (iota .scVector S16 32 [0] iota_S16_d0_w32_scVector) 0#32 1#32 t) x).toNat = 16 * (16 * t.val + (x 0).val) + 5 := gidx_val t 5 (by omega) x
    have hg6 : ((k0_pay25 (iota .scVector S16 32 [0] iota_S16_d0_w32_scVector) 0#32 1#32 t) x).toNat = 16 * (16 * t.val + (x 0).val) + 6 := gidx_val t 6 (by omega) x
    have hg7 : ((k0_pay26 (iota .scVector S16 32 [0] iota_S16_d0_w32_scVector) 0#32 1#32 t) x).toNat = 16 * (16 * t.val + (x 0).val) + 7 := gidx_val t 7 (by omega) x
    have hg8 : ((addi (k0_pay18 (iota .scVector S16 32 [0] iota_S16_d0_w32_scVector) 0#32 1#32 t) k0_pay28) x).toNat = 16 * (16 * t.val + (x 0).val) + 8 := gidx_val t 8 (by omega) x
    have hg9 : ((k0_pay29 (k0_pay18 (iota .scVector S16 32 [0] iota_S16_d0_w32_scVector) 0#32 1#32 t)) x).toNat = 16 * (16 * t.val + (x 0).val) + 9 := gidx_val t 9 (by omega) x
    have hg10 : ((k0_pay30 (k0_pay18 (iota .scVector S16 32 [0] iota_S16_d0_w32_scVector) 0#32 1#32 t)) x).toNat = 16 * (16 * t.val + (x 0).val) + 10 := gidx_val t 10 (by omega) x
    have hg11 : ((k0_pay31 (k0_pay18 (iota .scVector S16 32 [0] iota_S16_d0_w32_scVector) 0#32 1#32 t)) x).toNat = 16 * (16 * t.val + (x 0).val) + 11 := gidx_val t 11 (by omega) x
    have hg12 : ((k0_pay32 (k0_pay18 (iota .scVector S16 32 [0] iota_S16_d0_w32_scVector) 0#32 1#32 t)) x).toNat = 16 * (16 * t.val + (x 0).val) + 12 := gidx_val t 12 (by omega) x
    have hg13 : ((k0_pay33 (k0_pay18 (iota .scVector S16 32 [0] iota_S16_d0_w32_scVector) 0#32 1#32 t)) x).toNat = 16 * (16 * t.val + (x 0).val) + 13 := gidx_val t 13 (by omega) x
    have hg14 : ((k0_pay34 (k0_pay18 (iota .scVector S16 32 [0] iota_S16_d0_w32_scVector) 0#32 1#32 t)) x).toNat = 16 * (16 * t.val + (x 0).val) + 14 := gidx_val t 14 (by omega) x
    have hg15 : ((k0_pay35 (k0_pay18 (iota .scVector S16 32 [0] iota_S16_d0_w32_scVector) 0#32 1#32 t)) x).toNat = 16 * (16 * t.val + (x 0).val) + 15 := gidx_val t 15 (by omega) x
    simp only [k0_pay4, k0_pay36, k0_pay37, k0_pay38, k0_pay27, select, cmpi, subi, addi, andi, shrsi, broadcast, IntOp.addi, IntOp.subi, IntOp.andi, IntOp.cmpi, load_at]
    simp only [addi, IntOp.addi] at hg8
    rw [hg0, hg1, hg2, hg3, hg4, hg5, hg6, hg7, hg8, hg9, hg10, hg11, hg12, hg13, hg14, hg15]
    simp only [bins, binOf, lens, wsum, shrsi_sixteen, BitVec.zero_add, Nat.add_zero, Scalar.select]
    generalize _ + BitVec.sshiftRight _ 16 = y
    by_cases hy : y = 0#32
    · subst hy; rfl
    · rw [if_neg hy, if_neg]
      intro h
      have hf : (y == 0#32) = false := beq_false_of_ne hy
      exact absurd (h.symm.trans (congrArg BitVec.ofBool hf)) (by decide)
  have hc : k0_chk17 V := fun a x => by fin_cases a; rw [hVb]; exact hb x
  rw [wp_assume_of _ _ _ _ hc]
  iapply (wp_load7 d L fh) $$ H7; iintro H7
  iapply (wp_store7 d L fh) $$ H7; iintro H7
  sl_step
  isplitl [H6]; · iexact H6
  iexists _
  isplitr
  rotate_left
  · iexact H7
  ipureintro
  intro n
  rw [← hVb]
  exact scatter_scan (F := F) (n := 4608) fh V _ n

end Cert.Proof
-- ==== Proof.Fetch.lean ====
/-
  One asynchronous copy of thirty-two rows into a tile's buffer: what is in flight, its start and its end.
-/
module

public import proofs.«01_k».proof.Proof.Rows
public import proofs.«01_k».proof.Proof.Gather

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-- Thirty-two rows from row `r`, as a slice of the operand reads them. -/
theorem read_rows {κ : Kind} {sp : Space} (v : View sig κ sp S16384x1024 .i32) (f : v.ty.Contents (Elt F)) (off : Fin 2 → ℕ) (r : ℕ)
    (h : ∀ a, off a + S32x1024.size a ≤ S16384x1024.size a) (h0 : off 0 = r) (h1 : off 1 = 0) (x k : ℕ) (hx : x < 32) :
    at2 (n := 32) (m := 1024) ((v.slice (Rect.unit (s := S16384x1024) off S32x1024.size h)).read (Elt F) f) x k
      = at2 (n := 16384) (m := 1024) (v.read (Elt F) f) (r + x) k := by
  have hr : off 0 + 32 ≤ 16384 := h 0
  by_cases hk : k < 1024
  · rw [at2, dif_pos ⟨hx, hk⟩]
    show v.read (Elt F) f ((Rect.unit (s := S16384x1024) off S32x1024.size h).emb (ix2 x k ⟨hx, hk⟩)) = _
    refine at2_eq _ _ ?_ ?_
    · show off 0 + 1 * x = _; omega
    · show off 1 + 1 * k = _; omega
  · rw [at2, dif_neg (by omega), at2, dif_neg (by omega)]

section A

/-- Rows `r` to `r + 31` on their way to the first buffer: the buffer with them is delivered, and the operand's share
    comes back whole. -/
def FlA (d : Dev nD) (L : grid0.Coords) (q : PosShare TreeShare) (W : Buf (Elt F) (a2.view.loc (thr L d))) (r : ℕ) : sProp 𝕄 :=
  iprop(∃ (g : Buf (Elt F) (a4.view.loc (thr L d))) (S : Finset (Idx (a2.view.loc (thr L d)))),
    ⌜∀ x k, x < 32 → at2 (n := 32) (m := 1024) g x k = at2 (n := 16384) (m := 1024) W (r + x) k⌝ ∗
    Flight EC (thr L d) (.dma cc0_scratch4.sem) none (a4.view.amount (.dma cc0_scratch4.sem))
      iprop((a4.view.loc (thr L d) ↦{fullShare} g) ∗ (a2.view.loc (thr L d) ↦[S]{q} W)) ∗
    (a2.view.loc (thr L d) ↦[Finset.univ \ S]{q} W))

theorem fetchA (d : Dev nD) (L : grid0.Coords) (q : PosShare TreeShare) (W : Buf (Elt F) (a2.view.loc (thr L d))) (r : ℕ)
    {off : Fin 2 → ℕ} {h : ∀ a, off a + S32x1024.size a ≤ S16384x1024.size a} (h0 : off 0 = r) (h1 : off 1 = 0)
    (fb : Buf (Elt F) (a4.view.loc (thr L d))) {hsl} {hs} {hd} {hm} {α : Type}
    {k : PUnit → Prog (TpuEff nD τ sig (Elt F) Λ₀ (thr L d).2) α} {Q : α → sProp 𝕄} :
    iprop((a2.view.loc (thr L d) ↦{q} W) ∗ (a4.view.loc (thr L d) ↦{fullShare} fb) ∗ semVal (thr L d, .dma cc0_scratch4.sem) 0 : sProp 𝕄)
      ⊢ iprop((FlA d L q W r -∗ wp frame (wpE (defs₀ (F := F)) 𝒱₀ (thr L d) none) Set.univ (k ⟨⟩) Q) -∗
          wp frame (wpE (defs₀ (F := F)) 𝒱₀ (thr L d) none) Set.univ
            (.op (.enqueueDma (a2.slice (Rect.unit (s := S16384x1024) off S32x1024.size h) hsl) (.here a4) (.dma cc0_scratch4.sem) hs hd hm) k) Q) := by
  iintro ⟨H2, H4, Hv⟩ Hk
  ihave H2 := (pointsTo_split_subset (S := Finset.univ) (I := (a2.slice (Rect.unit (s := S16384x1024) off S32x1024.size h) hsl).view.set)
    (Finset.subset_univ _)).1 $$ H2
  icases H2 with ⟨H2, H2r⟩
  iapply (Transfers.wp_dmaLocal EC 𝒱₀ (thr L d) none (src := a2.slice (Rect.unit (s := S16384x1024) off S32x1024.size h) hsl)
    (dst := a4) (via := .same) (Sd := Finset.univ) (fd := fb) (fs := W) none _ rfl (View.amount_pos _ _ (show 0 < S32x1024.numel by decide)) (Finset.subset_univ _))
    $$ [H2 H4 Hv]
  · isplitl [H2]; · iexact H2
    isplitl [H4]; · iexact H4
    iexact Hv
  iintro HF
  iapply Hk
  unfold FlA
  iexists _, _
  isplitr
  rotate_left
  · isplitl [HF]; · iexact HF
    iexact H2r
  ipureintro
  intro x k hx
  rw [show a4.view.write (Elt F) fb (ReadAs.apply .same ((a2.slice (Rect.unit (s := S16384x1024) off S32x1024.size h) hsl).view.read (Elt F) W)) Finset.univ
    = (a2.slice (Rect.unit (s := S16384x1024) off S32x1024.size h) hsl).view.read (Elt F) W from View.write_whole_univ _ _ _]
  exact read_rows a2.view W off r h h0 h1 x k hx

theorem fetchedA (d : Dev nD) (L : grid0.Coords) (q : PosShare TreeShare) (W : Buf (Elt F) (a2.view.loc (thr L d))) (r : ℕ)
    {srcw : Memref sig .scVector .hbm S32x1024 .i32} {hs} {hd} {O : CellTallies nD τ sig (HIx 2)} {Wd : Finset (SemLoc sig × HIx 2)} {α : Type}
    {k : PUnit → Prog (TpuEff nD τ sig (Elt F) Λ₀ (thr L d).2) α} {Q : α → sProp 𝕄} :
    iprop(FlA d L q W r ∗ owes (thr L d) O Wd ∗ MayWait (thr L d) (.dma cc0_scratch4.sem) none O : sProp 𝕄)
      ⊢ iprop(((∃ g : Buf (Elt F) (a4.view.loc (thr L d)),
              ⌜∀ x k, x < 32 → at2 (n := 32) (m := 1024) g x k = at2 (n := 16384) (m := 1024) W (r + x) k⌝ ∗
              (a4.view.loc (thr L d) ↦{fullShare} g) ∗ (a2.view.loc (thr L d) ↦{q} W) ∗ semVal (thr L d, .dma cc0_scratch4.sem) 0 ∗
              owes (thr L d) O (insert (SemLoc.dma cc0_scratch4.sem, none) Wd)) -∗
            wp frame (wpE (defs₀ (F := F)) 𝒱₀ (thr L d) none) Set.univ (k ⟨⟩) Q) -∗
          wp frame (wpE (defs₀ (F := F)) 𝒱₀ (thr L d) none) Set.univ
            (.op (.waitDma2 cc0_scratch4.sem srcw a4 hs hd) k) Q) := by
  unfold FlA
  iintro ⟨⟨%g, %S, %hg, HF, H2r⟩, Ho, Hm⟩ Hk
  iapply (Transfers.wp_waitLocalO EC 𝒱₀ (thr L d) none none rfl) $$ [HF Ho Hm]
  · isplitl [HF]; · iexact HF
    isplitl [Ho]; · iexact Ho
    iexact Hm
  iintro ⟨⟨H4, H2⟩, Hv, Ho⟩
  iapply Hk
  iexists g
  isplitr; · ipureintro; exact hg
  isplitl [H4]; · iexact H4
  isplitl [H2 H2r]
  · iapply (pointsTo_split_subset (S := Finset.univ) (I := S) (Finset.subset_univ _)).2
    isplitl [H2]; · iexact H2
    iexact H2r
  isplitl [Hv]; · iexact Hv
  iexact Ho

end A

section B

/-- Rows `r` to `r + 31` on their way to the second buffer: the buffer with them is delivered, and the operand's share
    comes back whole. -/
def FlB (d : Dev nD) (L : grid0.Coords) (q : PosShare TreeShare) (W : Buf (Elt F) (a2.view.loc (thr L d))) (r : ℕ) : sProp 𝕄 :=
  iprop(∃ (g : Buf (Elt F) (a5.view.loc (thr L d))) (S : Finset (Idx (a2.view.loc (thr L d)))),
    ⌜∀ x k, x < 32 → at2 (n := 32) (m := 1024) g x k = at2 (n := 16384) (m := 1024) W (r + x) k⌝ ∗
    Flight EC (thr L d) (.dma cc0_scratch5.sem) none (a5.view.amount (.dma cc0_scratch5.sem))
      iprop((a5.view.loc (thr L d) ↦{fullShare} g) ∗ (a2.view.loc (thr L d) ↦[S]{q} W)) ∗
    (a2.view.loc (thr L d) ↦[Finset.univ \ S]{q} W))

theorem fetchB (d : Dev nD) (L : grid0.Coords) (q : PosShare TreeShare) (W : Buf (Elt F) (a2.view.loc (thr L d))) (r : ℕ)
    {off : Fin 2 → ℕ} {h : ∀ a, off a + S32x1024.size a ≤ S16384x1024.size a} (h0 : off 0 = r) (h1 : off 1 = 0)
    (fb : Buf (Elt F) (a5.view.loc (thr L d))) {hsl} {hs} {hd} {hm} {α : Type}
    {k : PUnit → Prog (TpuEff nD τ sig (Elt F) Λ₀ (thr L d).2) α} {Q : α → sProp 𝕄} :
    iprop((a2.view.loc (thr L d) ↦{q} W) ∗ (a5.view.loc (thr L d) ↦{fullShare} fb) ∗ semVal (thr L d, .dma cc0_scratch5.sem) 0 : sProp 𝕄)
      ⊢ iprop((FlB d L q W r -∗ wp frame (wpE (defs₀ (F := F)) 𝒱₀ (thr L d) none) Set.univ (k ⟨⟩) Q) -∗
          wp frame (wpE (defs₀ (F := F)) 𝒱₀ (thr L d) none) Set.univ
            (.op (.enqueueDma (a2.slice (Rect.unit (s := S16384x1024) off S32x1024.size h) hsl) (.here a5) (.dma cc0_scratch5.sem) hs hd hm) k) Q) := by
  iintro ⟨H2, H4, Hv⟩ Hk
  ihave H2 := (pointsTo_split_subset (S := Finset.univ) (I := (a2.slice (Rect.unit (s := S16384x1024) off S32x1024.size h) hsl).view.set)
    (Finset.subset_univ _)).1 $$ H2
  icases H2 with ⟨H2, H2r⟩
  iapply (Transfers.wp_dmaLocal EC 𝒱₀ (thr L d) none (src := a2.slice (Rect.unit (s := S16384x1024) off S32x1024.size h) hsl)
    (dst := a5) (via := .same) (Sd := Finset.univ) (fd := fb) (fs := W) none _ rfl (View.amount_pos _ _ (show 0 < S32x1024.numel by decide)) (Finset.subset_univ _))
    $$ [H2 H4 Hv]
  · isplitl [H2]; · iexact H2
    isplitl [H4]; · iexact H4
    iexact Hv
  iintro HF
  iapply Hk
  unfold FlB
  iexists _, _
  isplitr
  rotate_left
  · isplitl [HF]; · iexact HF
    iexact H2r
  ipureintro
  intro x k hx
  rw [show a5.view.write (Elt F) fb (ReadAs.apply .same ((a2.slice (Rect.unit (s := S16384x1024) off S32x1024.size h) hsl).view.read (Elt F) W)) Finset.univ
    = (a2.slice (Rect.unit (s := S16384x1024) off S32x1024.size h) hsl).view.read (Elt F) W from View.write_whole_univ _ _ _]
  exact read_rows a2.view W off r h h0 h1 x k hx

theorem fetchedB (d : Dev nD) (L : grid0.Coords) (q : PosShare TreeShare) (W : Buf (Elt F) (a2.view.loc (thr L d))) (r : ℕ)
    {srcw : Memref sig .scVector .hbm S32x1024 .i32} {hs} {hd} {O : CellTallies nD τ sig (HIx 2)} {Wd : Finset (SemLoc sig × HIx 2)} {α : Type}
    {k : PUnit → Prog (TpuEff nD τ sig (Elt F) Λ₀ (thr L d).2) α} {Q : α → sProp 𝕄} :
    iprop(FlB d L q W r ∗ owes (thr L d) O Wd ∗ MayWait (thr L d) (.dma cc0_scratch5.sem) none O : sProp 𝕄)
      ⊢ iprop(((∃ g : Buf (Elt F) (a5.view.loc (thr L d)),
              ⌜∀ x k, x < 32 → at2 (n := 32) (m := 1024) g x k = at2 (n := 16384) (m := 1024) W (r + x) k⌝ ∗
              (a5.view.loc (thr L d) ↦{fullShare} g) ∗ (a2.view.loc (thr L d) ↦{q} W) ∗ semVal (thr L d, .dma cc0_scratch5.sem) 0 ∗
              owes (thr L d) O (insert (SemLoc.dma cc0_scratch5.sem, none) Wd)) -∗
            wp frame (wpE (defs₀ (F := F)) 𝒱₀ (thr L d) none) Set.univ (k ⟨⟩) Q) -∗
          wp frame (wpE (defs₀ (F := F)) 𝒱₀ (thr L d) none) Set.univ
            (.op (.waitDma2 cc0_scratch5.sem srcw a5 hs hd) k) Q) := by
  unfold FlB
  iintro ⟨⟨%g, %S, %hg, HF, H2r⟩, Ho, Hm⟩ Hk
  iapply (Transfers.wp_waitLocalO EC 𝒱₀ (thr L d) none none rfl) $$ [HF Ho Hm]
  · isplitl [HF]; · iexact HF
    isplitl [Ho]; · iexact Ho
    iexact Hm
  iintro ⟨⟨H4, H2⟩, Hv, Ho⟩
  iapply Hk
  iexists g
  isplitr; · ipureintro; exact hg
  isplitl [H4]; · iexact H4
  isplitl [H2 H2r]
  · iapply (pointsTo_split_subset (S := Finset.univ) (I := S) (Finset.subset_univ _)).2
    isplitl [H2]; · iexact H2
    iexact H2r
  isplitl [Hv]; · iexact Hv
  iexact Ho

end B

end Cert.Proof
-- ==== Proof.Loops.lean ====
/-
  The first call's loops, run to their ends: each by its trip's lemma and an invariant over the trips done.
-/
module

public import proofs.«01_k».proof.Proof.Fetch

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

theorem trips1 : k0_t1_loop.trips = 288 := by decide
theorem trips2 : k0_t2_loop.trips = 8 := by decide
theorem trips3 : k0_t3_loop.trips = 32 := by decide
theorem trips4 : k0_t4_loop.trips = 32 := by decide
theorem trips5 : k0_t5_loop.trips = 32 := by decide

/-- The histogram zeroed. -/
theorem loop1 (d : Dev nD) (L : grid0.Coords) (fh : Buf (Elt F) (a7.view.loc (thr L d))) :
    iprop((a7.view.loc (thr L d) ↦{fullShare} fh) : sProp 𝕄)
      ⊢ wp frame (wpE (defs₀ (F := F)) 𝒱₀ (thr L d) none) Set.univ
          (Scf.Loop.for k0_t1_loop k0_t1_ok 0#32 (k0_t1_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0))
          fun _ => iprop(∃ fh' : Buf (Elt F) (a7.view.loc (thr L d)),
            ⌜∀ k, at1 (n := 4608) fh' k = 0#32⌝ ∗ (a7.view.loc (thr L d) ↦{fullShare} fh')) := by
  iintro H
  iapply (Scf.wp_for frame (wpE (defs₀ (F := F)) 𝒱₀ (thr L d) none) Set.univ k0_t1_loop.lb k0_t1_loop.ub k0_t1_loop.st k0_t1_ok 0#32 _
    (fun t _ => iprop(∃ fh' : Buf (Elt F) (a7.view.loc (thr L d)),
      ⌜∀ k, k < 16 * t → at1 (n := 4608) fh' k = 0#32⌝ ∗ (a7.view.loc (thr L d) ↦{fullShare} fh'))) ?_)
  · intro t b
    iintro ⟨%f, %hf, H⟩
    iapply (trip1 d L t b f hf) $$ H
  · isplitl [H]
    · iexists fh
      isplitr; · ipureintro; intro k hk; omega
      iexact H
    · iintro %_ ⟨%f, %hf, H⟩
      iexists f
      isplitr
      · ipureintro
        rw [show Scf.trips k0_t1_loop.lb k0_t1_loop.ub k0_t1_loop.st = 288 from trips1] at hf
        intro k
        by_cases hk : k < 4608
        · exact hf k (by omega)
        · rw [at1, dif_neg hk]; rfl
      iexact H

theorem tval_congr {G G' : ℕ → ℕ → BitVec 32} {r r' : ℕ} (h : ∀ k, G r k = G' r' k) (l : ℕ) : tval G r l = tval G' r' l := by
  unfold tval
  simp only [h]

/-- The table's first `n` rows hold the half-reduced sums of the rows of `W` from `base`. -/
def Tab (W : S16384x1024.Idx → BitVec 32) (base n : ℕ) (ft : S8192.Idx → BitVec 32) : Prop :=
  ∀ R l, R < n → l < 16 → at1 (n := 8192) ft (16 * R + l) = tval (at2 (n := 16384) (m := 1024) W) (base + R) l

theorem Tab.step {W : S16384x1024.Idx → BitVec 32} {base n : ℕ} {ft ft' : S8192.Idx → BitVec 32} (h : Tab W base n ft)
    {G : ℕ → ℕ → BitVec 32} {r : ℕ} (hG : ∀ k, G r k = at2 (n := 16384) (m := 1024) W (base + n) k)
    {o : ℕ} (ho : o = 16 * n)
    (hf : ∀ k, at1 (n := 8192) ft' k = if o ≤ k ∧ k < o + 16 then tval G r (k - o) else at1 (n := 8192) ft k) :
    Tab W base (n + 1) ft' := by
  intro R l hR hl
  rw [hf]
  by_cases he : R = n
  · subst he
    rw [if_pos (by omega), show 16 * R + l - o = l by omega]
    exact tval_congr hG l
  · rw [if_neg (by omega)]
    exact h R l (by omega) hl

/-- The first block reduced: thirty-two more rows of the table. -/
theorem loop3 (d : Dev nD) (L : grid0.Coords) (t2 : Fin k0_t2_loop.trips) (W : S16384x1024.Idx → BitVec 32) (base : ℕ)
    (fa : Buf (Elt F) (a4.view.loc (thr L d))) (ft : Buf (Elt F) (a6.view.loc (thr L d)))
    (hg : ∀ x k, x < 32 → at2 (n := 32) (m := 1024) fa x k = at2 (n := 16384) (m := 1024) W (base + (64 * t2.val + 0) + x) k)
    (hT : Tab W base (64 * t2.val + 0) ft) :
    iprop((a4.view.loc (thr L d) ↦{fullShare} fa) ∗ (a6.view.loc (thr L d) ↦{fullShare} ft) : sProp 𝕄)
      ⊢ wp frame (wpE (defs₀ (F := F)) 𝒱₀ (thr L d) none) Set.univ
          (Scf.Loop.for k0_t3_loop k0_t3_ok 0#32 (k0_t3_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t2))
          fun _ => iprop((a4.view.loc (thr L d) ↦{fullShare} fa) ∗
            ∃ ft' : Buf (Elt F) (a6.view.loc (thr L d)), ⌜Tab W base (64 * t2.val + 0 + 32) ft'⌝ ∗ (a6.view.loc (thr L d) ↦{fullShare} ft')) := by
  iintro ⟨H4, H6⟩
  iapply (Scf.wp_for frame (wpE (defs₀ (F := F)) 𝒱₀ (thr L d) none) Set.univ k0_t3_loop.lb k0_t3_loop.ub k0_t3_loop.st k0_t3_ok 0#32 _
    (fun t _ => iprop((a4.view.loc (thr L d) ↦{fullShare} fa) ∗
      ∃ ft' : Buf (Elt F) (a6.view.loc (thr L d)), ⌜Tab W base (64 * t2.val + 0 + t) ft'⌝ ∗ (a6.view.loc (thr L d) ↦{fullShare} ft'))) ?_)
  · intro t b
    iintro ⟨H4, %f, %hf, H6⟩
    ihave Hw := (trip3 d L t2 t b fa f) $$ [H4 H6]
    · isplitl [H4]; · iexact H4
      iexact H6
    iapply (wp_wand frame (wpE (defs₀ (F := F)) 𝒱₀ (thr L d) none) Set.univ) $$ Hw
    iintro %_ ⟨H4, %f', %hf', H6⟩
    isplitl [H4]; · iexact H4
    iexists f'
    isplitr
    · ipureintro
      have ht : t.val < 32 := lt_of_lt_of_eq t.isLt trips3
      exact hf.step (fun k => (hg t.val k ht).trans (by rw [Nat.add_assoc])) (by omega) hf'
    iexact H6
  · isplitl [H4 H6]
    · isplitl [H4]; · iexact H4
      iexists ft
      isplitr; · ipureintro; exact hT
      iexact H6
    · iintro %_ ⟨H4, %f, %hf, H6⟩
      isplitl [H4]; · iexact H4
      iexists f
      isplitr
      · ipureintro
        rw [show Scf.trips k0_t3_loop.lb k0_t3_loop.ub k0_t3_loop.st = 32 from trips3] at hf
        exact hf
      iexact H6

/-- The second block reduced: thirty-two more rows of the table. -/
theorem loop4 (d : Dev nD) (L : grid0.Coords) (t2 : Fin k0_t2_loop.trips) (W : S16384x1024.Idx → BitVec 32) (base : ℕ)
    (fa : Buf (Elt F) (a5.view.loc (thr L d))) (ft : Buf (Elt F) (a6.view.loc (thr L d)))
    (hg : ∀ x k, x < 32 → at2 (n := 32) (m := 1024) fa x k = at2 (n := 16384) (m := 1024) W (base + (64 * t2.val + 32) + x) k)
    (hT : Tab W base (64 * t2.val + 32) ft) :
    iprop((a5.view.loc (thr L d) ↦{fullShare} fa) ∗ (a6.view.loc (thr L d) ↦{fullShare} ft) : sProp 𝕄)
      ⊢ wp frame (wpE (defs₀ (F := F)) 𝒱₀ (thr L d) none) Set.univ
          (Scf.Loop.for k0_t4_loop k0_t4_ok 0#32 (k0_t4_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t2))
          fun _ => iprop((a5.view.loc (thr L d) ↦{fullShare} fa) ∗
            ∃ ft' : Buf (Elt F) (a6.view.loc (thr L d)), ⌜Tab W base (64 * t2.val + 32 + 32) ft'⌝ ∗ (a6.view.loc (thr L d) ↦{fullShare} ft')) := by
  iintro ⟨H4, H6⟩
  iapply (Scf.wp_for frame (wpE (defs₀ (F := F)) 𝒱₀ (thr L d) none) Set.univ k0_t4_loop.lb k0_t4_loop.ub k0_t4_loop.st k0_t4_ok 0#32 _
    (fun t _ => iprop((a5.view.loc (thr L d) ↦{fullShare} fa) ∗
      ∃ ft' : Buf (Elt F) (a6.view.loc (thr L d)), ⌜Tab W base (64 * t2.val + 32 + t) ft'⌝ ∗ (a6.view.loc (thr L d) ↦{fullShare} ft'))) ?_)
  · intro t b
    iintro ⟨H4, %f, %hf, H6⟩
    ihave Hw := (trip4 d L t2 t b fa f) $$ [H4 H6]
    · isplitl [H4]; · iexact H4
      iexact H6
    iapply (wp_wand frame (wpE (defs₀ (F := F)) 𝒱₀ (thr L d) none) Set.univ) $$ Hw
    iintro %_ ⟨H4, %f', %hf', H6⟩
    isplitl [H4]; · iexact H4
    iexists f'
    isplitr
    · ipureintro
      have ht : t.val < 32 := lt_of_lt_of_eq t.isLt trips4
      exact hf.step (fun k => (hg t.val k ht).trans (by rw [Nat.add_assoc])) (by omega) hf'
    iexact H6
  · isplitl [H4 H6]
    · isplitl [H4]; · iexact H4
      iexists ft
      isplitr; · ipureintro; exact hT
      iexact H6
    · iintro %_ ⟨H4, %f, %hf, H6⟩
      isplitl [H4]; · iexact H4
      iexists f
      isplitr
      · ipureintro
        rw [show Scf.trips k0_t4_loop.lb k0_t4_loop.ub k0_t4_loop.st = 32 from trips4] at hf
        exact hf
      iexact H6

/-- How many of the `m` rows of `W` from `base` have bin `n`. -/
def cnt (W : S16384x1024.Idx → BitVec 32) (base m n : ℕ) : ℕ :=
  ((Finset.range m).filter fun R => (bin (at2 (n := 16384) (m := 1024) W) (base + R)).toNat = n).card

theorem cnt_step (W : S16384x1024.Idx → BitVec 32) (base m n : ℕ) :
    cnt W base (m + 16) n = cnt W base m n
      + (Finset.univ.filter fun k : Fin 16 => (bin (at2 (n := 16384) (m := 1024) W) (base + (m + k.val))).toNat = n).card := by
  unfold cnt
  rw [Finset.card_filter, Finset.card_filter, Finset.card_filter, Finset.sum_range_add, Finset.sum_range (n := 16)]

theorem bins_eq {W : S16384x1024.Idx → BitVec 32} {base : ℕ} {ft : S8192.Idx → BitVec 32} (hT : Tab W base 512 ft) (t : ℕ) (ht : t < 32)
    (x : S16.Idx) : bins (at1 (n := 8192) ft) t x = bin (at2 (n := 16384) (m := 1024) W) (base + (16 * t + (x 0).val)) := by
  have hx : (x 0).val < 16 := (x 0).isLt
  have h : ∀ l, l < 16 → at1 (n := 8192) ft (16 * (16 * t + (x 0).val) + l)
      = tval (at2 (n := 16384) (m := 1024) W) (base + (16 * t + (x 0).val)) l := fun l hl => hT _ l (by omega) hl
  show binOf (lens _) = binOf (lens _)
  unfold lens
  simp only [wsum, h 0 (by omega), h 1 (by omega), h 2 (by omega), h 3 (by omega), h 4 (by omega), h 5 (by omega), h 6 (by omega), h 7 (by omega),
    h 8 (by omega), h 9 (by omega), h 10 (by omega), h 11 (by omega), h 12 (by omega), h 13 (by omega), h 14 (by omega), h 15 (by omega)]

/-- The tile's rows binned into the zeroed histogram. -/
theorem loop5 (d : Dev nD) (L : grid0.Coords) (W : S16384x1024.Idx → BitVec 32) (base : ℕ)
    (ft : Buf (Elt F) (a6.view.loc (thr L d))) (fh : Buf (Elt F) (a7.view.loc (thr L d)))
    (hT : Tab W base 512 ft) (hz : ∀ k, at1 (n := 4608) fh k = 0#32)
    (hb : ∀ R, (bin (at2 (n := 16384) (m := 1024) W) R).toNat < 4608) :
    iprop((a6.view.loc (thr L d) ↦{fullShare} ft) ∗ (a7.view.loc (thr L d) ↦{fullShare} fh) : sProp 𝕄)
      ⊢ wp frame (wpE (defs₀ (F := F)) 𝒱₀ (thr L d) none) Set.univ
          (Scf.Loop.for k0_t5_loop k0_t5_ok 0#32 (k0_t5_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0
            (iota .scVector S16 32 [0] iota_S16_d0_w32_scVector)))
          fun _ => iprop((a6.view.loc (thr L d) ↦{fullShare} ft) ∗
            ∃ fh' : Buf (Elt F) (a7.view.loc (thr L d)), ⌜∀ n, at1 (n := 4608) fh' n = BitVec.ofNat 32 (cnt W base 512 n)⌝ ∗
              (a7.view.loc (thr L d) ↦{fullShare} fh')) := by
  iintro ⟨H6, H7⟩
  iapply (Scf.wp_for frame (wpE (defs₀ (F := F)) 𝒱₀ (thr L d) none) Set.univ k0_t5_loop.lb k0_t5_loop.ub k0_t5_loop.st k0_t5_ok 0#32 _
    (fun t _ => iprop((a6.view.loc (thr L d) ↦{fullShare} ft) ∗
      ∃ fh' : Buf (Elt F) (a7.view.loc (thr L d)), ⌜∀ n, at1 (n := 4608) fh' n = BitVec.ofNat 32 (cnt W base (16 * t) n)⌝ ∗
        (a7.view.loc (thr L d) ↦{fullShare} fh'))) ?_)
  · intro t b
    have ht : t.val < 32 := lt_of_lt_of_eq t.isLt trips5
    iintro ⟨H6, %f, %hf, H7⟩
    ihave Hw := (trip5 d L t b ft f (fun x => by rw [bins_eq hT t.val ht x]; exact hb _)) $$ [H6 H7]
    · isplitl [H6]; · iexact H6
      iexact H7
    iapply (wp_wand frame (wpE (defs₀ (F := F)) 𝒱₀ (thr L d) none) Set.univ) $$ Hw
    iintro %_ ⟨H6, %f', %hf', H7⟩
    isplitl [H6]; · iexact H6
    iexists f'
    isplitr
    · ipureintro
      intro n
      rw [hf', hf, show 16 * (t.val + 1) = 16 * t.val + 16 by omega, cnt_step, BitVec.ofNat_add]
      have hc : (Finset.univ.filter fun k : Fin 16 => (bins (at1 (n := 8192) ft) t.val (lane16 k)).toNat = n)
          = Finset.univ.filter fun k : Fin 16 => (bin (at2 (n := 16384) (m := 1024) W) (base + (16 * t.val + k.val))).toNat = n :=
        Finset.filter_congr fun k _ => by rw [bins_eq hT t.val ht]; exact Iff.rfl
      rw [hc]
    iexact H7
  · isplitl [H6 H7]
    · isplitl [H6]; · iexact H6
      iexists fh
      isplitr; · ipureintro; intro n; rw [hz]; rfl
      iexact H7
    · iintro %_ ⟨H6, %f, %hf, H7⟩
      isplitl [H6]; · iexact H6
      iexists f
      isplitr
      · ipureintro
        rw [show Scf.trips k0_t5_loop.lb k0_t5_loop.ub k0_t5_loop.st = 32 from trips5] at hf
        exact hf
      iexact H7

end Cert.Proof
-- ==== Proof.Trip2.lean ====
/-
  The first call's loop over the tile's blocks of sixty-four rows: two buffers, each fetched while the other is reduced.
-/
module

public import proofs.«01_k».proof.Proof.Loops

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-- Before trip `t` of the loop over the tile's blocks of sixty-four rows: rows `64 t` to `64 t + 31` are on their way to
    the first buffer, the second buffer is free, and the table holds the first `64 t` rows' sums. -/
def Inv2 (d : Dev nD) (L : grid0.Coords) (q₁ q₂ : PosShare TreeShare) (W : Buf (Elt F) (a2.view.loc (thr L d)))
    (O : CellTallies nD τ sig (HIx 2)) (Wd : Finset (SemLoc sig × HIx 2)) (t : ℕ) : sProp 𝕄 :=
  iprop((if t < 8 then FlA d L q₁ W (1024 * (L 1).val + 512 * (L 0).val + 64 * t)
      else iprop((∃ f : Buf (Elt F) (a4.view.loc (thr L d)), (a4.view.loc (thr L d) ↦{fullShare} f)) ∗ (a2.view.loc (thr L d) ↦{q₁} W) ∗
        semVal (thr L d, .dma cc0_scratch4.sem) 0)) ∗
    (∃ f : Buf (Elt F) (a5.view.loc (thr L d)), (a5.view.loc (thr L d) ↦{fullShare} f)) ∗ (a2.view.loc (thr L d) ↦{q₂} W) ∗
    semVal (thr L d, .dma cc0_scratch5.sem) 0 ∗
    (∃ ft : Buf (Elt F) (a6.view.loc (thr L d)), ⌜Tab W (1024 * (L 1).val + 512 * (L 0).val) (64 * t) ft⌝ ∗ (a6.view.loc (thr L d) ↦{fullShare} ft)) ∗
    MayWaits (thr L d) none O ∗ ∃ W', ⌜∀ p ∈ W', p ∈ Wd ∨ p.2 = none⌝ ∗ owes (thr L d) O W')

theorem cond1 (t : Fin k0_t2_loop.trips) : k0_cond1 t = 1#1 ↔ t.val + 1 < 8 := by
  revert t; decide +kernel

theorem ret_none {A : Finset (SemLoc sig × HIx 2)} {B : Finset (SemLoc sig × HIx 2)} (h : ∀ p ∈ B, p ∈ A ∨ p.2 = none) (s : SemLoc sig) :
    ∀ p ∈ insert (s, none) B, p ∈ A ∨ p.2 = none := by
  intro p hp
  rcases Finset.mem_insert.mp hp with rfl | hp
  · exact .inr rfl
  · exact h p hp

theorem trip2 (d : Dev nD) (L : grid0.Coords) (q₁ q₂ : PosShare TreeShare) (W : Buf (Elt F) (a2.view.loc (thr L d)))
    (O : CellTallies nD τ sig (HIx 2)) (Wd : Finset (SemLoc sig × HIx 2)) (t : Fin k0_t2_loop.trips) (b : BitVec 32) :
    (Inv2 d L q₁ q₂ W O Wd t.val : sProp 𝕄)
      ⊢ wp frame (wpE (defs₀ (F := F)) 𝒱₀ (thr L d) none) Set.univ
          (k0_t2_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0 t b)
          fun _ => Inv2 d L q₁ q₂ W O Wd (t.val + 1) := by
  have ht : t.val < 8 := lt_of_lt_of_eq t.isLt trips2
  unfold Inv2 k0_t2_body
  rw [if_pos ht]
  simp only [Prog.lift, Prog.bind_op, Prog.bind_ret]
  iintro ⟨HA, ⟨%fb, H5⟩, H2, Hv5, ⟨%ft, %hT, H6⟩, #Hmw, %W', %hW, Ho⟩
  iapply (fetchB d L q₂ W (1024 * (L 1).val + 512 * (L 0).val + (64 * t.val + 32)) (by rw [k0_off3_eq]; rfl) (by rw [k0_off3_eq]; rfl) fb) $$ [H2 H5 Hv5]
  · isplitl [H2]; · iexact H2
    isplitl [H5]; · iexact H5
    iexact Hv5
  iintro HB
  iapply (fetchedA d L q₁ W _) $$ [HA Ho]
  · isplitl [HA]; · iexact HA
    isplitl [Ho]; · iexact Ho
    iapply (MayWaits.elim (SemLoc.dma cc0_scratch4.sem)); iexact Hmw
  iintro ⟨%g, %hg, H4, H2a, Hv4, Ho⟩
  rw [wp_bind]
  ihave Hw := (loop3 d L t W (1024 * (L 1).val + 512 * (L 0).val) g ft (fun x k hx => hg x k hx) hT) $$ [H4 H6]
  · isplitl [H4]; · iexact H4
    iexact H6
  iapply (wp_wand frame (wpE (defs₀ (F := F)) 𝒱₀ (thr L d) none) Set.univ) $$ Hw
  iintro %_ ⟨H4, %ft1, %hT1, H6⟩
  by_cases hc : k0_cond1 t = 1#1
  · have hlt := (cond1 t).mp hc
    rw [dif_pos hc, if_pos hlt]
    simp only [Prog.bind_op, Prog.bind_ret]
    iapply (fetchA d L q₁ W (1024 * (L 1).val + 512 * (L 0).val + 64 * (t.val + 1)) (by rw [k0_off70_eq]; rfl) (by rw [k0_off70_eq]; rfl) g) $$ [H2a H4 Hv4]
    · isplitl [H2a]; · iexact H2a
      isplitl [H4]; · iexact H4
      iexact Hv4
    iintro HA
    iapply (fetchedB d L q₂ W _) $$ [HB Ho]
    · isplitl [HB]; · iexact HB
      isplitl [Ho]; · iexact Ho
      iapply (MayWaits.elim (SemLoc.dma cc0_scratch5.sem)); iexact Hmw
    iintro ⟨%g', %hg', H5, H2, Hv5, Ho⟩
    rw [wp_bind]
    ihave Hw := (loop4 d L t W (1024 * (L 1).val + 512 * (L 0).val) g' ft1 (fun x k hx => hg' x k hx) hT1) $$ [H5 H6]
    · isplitl [H5]; · iexact H5
      iexact H6
    iapply (wp_wand frame (wpE (defs₀ (F := F)) 𝒱₀ (thr L d) none) Set.univ) $$ Hw
    iintro %_ ⟨H5, %ft2, %hT2, H6⟩
    sl_step
    isplitl [HA]; · iexact HA
    isplitl [H5]
    · iexists g'; iexact H5
    isplitl [H2]; · iexact H2
    isplitl [Hv5]; · iexact Hv5
    isplitl [H6]
    · iexists ft2
      isplitr; · ipureintro; exact hT2
      iexact H6
    isplitr; · iexact Hmw
    iexists _
    isplitr
    rotate_left
    · iexact Ho
    ipureintro
    exact ret_none (ret_none hW _) _
  · have hlt : ¬ t.val + 1 < 8 := fun h => hc ((cond1 t).mpr h)
    rw [dif_neg hc, if_neg hlt]
    simp only [Prog.bind_ret]
    iapply (fetchedB d L q₂ W _) $$ [HB Ho]
    · isplitl [HB]; · iexact HB
      isplitl [Ho]; · iexact Ho
      iapply (MayWaits.elim (SemLoc.dma cc0_scratch5.sem)); iexact Hmw
    iintro ⟨%g', %hg', H5, H2, Hv5, Ho⟩
    rw [wp_bind]
    ihave Hw := (loop4 d L t W (1024 * (L 1).val + 512 * (L 0).val) g' ft1 (fun x k hx => hg' x k hx) hT1) $$ [H5 H6]
    · isplitl [H5]; · iexact H5
      iexact H6
    iapply (wp_wand frame (wpE (defs₀ (F := F)) 𝒱₀ (thr L d) none) Set.univ) $$ Hw
    iintro %_ ⟨H5, %ft2, %hT2, H6⟩
    sl_step
    isplitl [H4 H2a Hv4]
    · isplitl [H4]; · iexists g; iexact H4
      isplitl [H2a]; · iexact H2a
      iexact Hv4
    isplitl [H5]
    · iexists g'; iexact H5
    isplitl [H2]; · iexact H2
    isplitl [Hv5]; · iexact Hv5
    isplitl [H6]
    · iexists ft2
      isplitr; · ipureintro; exact hT2
      iexact H6
    isplitr; · iexact Hmw
    iexists _
    isplitr
    rotate_left
    · iexact Ho
    ipureintro
    exact ret_none (ret_none hW _) _

theorem loop2 (d : Dev nD) (L : grid0.Coords) (q₁ q₂ : PosShare TreeShare) (W : Buf (Elt F) (a2.view.loc (thr L d)))
    (O : CellTallies nD τ sig (HIx 2)) (Wd : Finset (SemLoc sig × HIx 2)) :
    (Inv2 d L q₁ q₂ W O Wd 0 : sProp 𝕄)
      ⊢ wp frame (wpE (defs₀ (F := F)) 𝒱₀ (thr L d) none) Set.univ
          (Scf.Loop.for k0_t2_loop k0_t2_ok 0#32 (k0_t2_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0))
          fun _ => Inv2 d L q₁ q₂ W O Wd 8 := by
  iintro H
  iapply (Scf.wp_for frame (wpE (defs₀ (F := F)) 𝒱₀ (thr L d) none) Set.univ k0_t2_loop.lb k0_t2_loop.ub k0_t2_loop.st k0_t2_ok 0#32 _
    (fun t _ => Inv2 d L q₁ q₂ W O Wd t) fun t b => trip2 d L q₁ q₂ W O Wd t b)
  isplitl [H]; · iexact H
  iintro %_ H
  rw [show Scf.trips k0_t2_loop.lb k0_t2_loop.ub k0_t2_loop.st = 8 from trips2]
  iexact H

end Cert.Proof
-- ==== Proof.Body0.lean ====
/-
  The first call's body at a tile, whole: the tile's row of the histograms is written.
-/
module

public import proofs.«01_k».proof.Proof.Trip2

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-- The tile's row of the histograms, as the body names it. -/
abbrev rowV (L : grid0.Coords) : Memref sig .scVector .hbm S4608 .i32 :=
  (a3.slice (Rect.unit (s := S32x4608) (k0_off136 L) S1x4608.size (k0_off136_inb L)) (fun _ => rfl)).squeeze S4608 squeezes_S1x4608_S4608

/-- The histograms of the words `W`: row `t` counts the bins of tile `t`'s five hundred and twelve rows. -/
def hist (W : S16384x1024.Idx → BitVec 32) : S32x4608.Idx → BitVec 32 :=
  fun y => BitVec.ofNat 32 (cnt W (512 * (y 0).val) 512 (y 1).val)

theorem hist_at (W : S16384x1024.Idx → BitVec 32) (r k : ℕ) (hr : r < 32) (hk : k < 4608) :
    at2 (n := 32) (m := 4608) (hist W) r k = BitVec.ofNat 32 (cnt W (512 * r) 512 k) := by
  rw [at2, dif_pos ⟨hr, hk⟩]; rfl

/-- The row written with a histogram reads as the table of histograms does. -/
theorem row_write (L : grid0.Coords) (W : S16384x1024.Idx → BitVec 32) (f3 : a3.view.ty.Contents (Elt F)) (f7 : S4608.Idx → BitVec 32)
    (h7 : ∀ n, at1 (n := 4608) f7 n = BitVec.ofNat 32 (cnt W (1024 * (L 1).val + 512 * (L 0).val) 512 n)) :
    ∀ i ∈ (rowV L).view.set, (rowV L).view.write (Elt F) f3 f7 Finset.univ i = hist W i := by
  intro i hi
  obtain ⟨x, -, rfl⟩ := Finset.mem_map.mp hi
  rw [View.write_emb_of_mem (v := (rowV L).view) f3 f7 (Finset.mem_univ x)]
  have h := cast_read (F := F) (n := 32) (m := 4608) (w := 4608) (View.whole main_v3_scv) (hist W) (k0_off136 L) (k0_off136_inb L)
    (by decide) x
  show f7 x = (rowV L).view.read (Elt F) (hist W) x
  refine Eq.trans ?_ h.symm
  have hx : (x 0).val < 4608 := (x 0).isLt
  have hw : (L 1).val * 2 + (L 0).val < 32 := wid_lt L
  rw [← at1_coords f7 x, h7, k0_off136_eq]
  show _ = at2 (n := 32) (m := 4608) (hist W) (2 * (L 1).val + (L 0).val) (0 + (x 0).val)
  rw [Nat.zero_add, hist_at W _ _ (by omega) hx]
  congr 2
  omega

theorem body0 (d : Dev nD) (L : grid0.Coords) (q₁ q₂ : PosShare TreeShare) (W : Buf (Elt F) (a2.view.loc (thr L d)))
    (hb : ∀ R, (bin (at2 (n := 16384) (m := 1024) W) R).toNat < 4608)
    (O : CellTallies nD τ sig (HIx 2)) (Wd : Finset (SemLoc sig × HIx 2))
    (f3 : Buf (Elt F) (a3.view.loc (thr L d))) (f4 : Buf (Elt F) (a4.view.loc (thr L d))) (f5 : Buf (Elt F) (a5.view.loc (thr L d)))
    (f6 : Buf (Elt F) (a6.view.loc (thr L d))) (f7 : Buf (Elt F) (a7.view.loc (thr L d))) :
    iprop((a2.view.loc (thr L d) ↦{q₁} W) ∗ (a2.view.loc (thr L d) ↦{q₂} W) ∗ ((rowV L).view.loc (thr L d) ↦[(rowV L).view.set]{fullShare} f3) ∗
        (a4.view.loc (thr L d) ↦{fullShare} f4) ∗ (a5.view.loc (thr L d) ↦{fullShare} f5) ∗ (a6.view.loc (thr L d) ↦{fullShare} f6) ∗
        (a7.view.loc (thr L d) ↦{fullShare} f7) ∗ semVal (thr L d, .dma cc0_scratch4.sem) 0 ∗ semVal (thr L d, .dma cc0_scratch5.sem) 0 ∗
        semVal (thr L d, .dma cc0_scoped0.sem) 0 ∗ MayWaits (thr L d) none O ∗ owes (thr L d) O Wd : sProp 𝕄)
      ⊢ wp frame (wpE (defs₀ (F := F)) 𝒱₀ (thr L d) none) Set.univ
          (cc0__row_hist_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0)
          fun _ => iprop((a2.view.loc (thr L d) ↦{q₁} W) ∗ (a2.view.loc (thr L d) ↦{q₂} W) ∗
            ((rowV L).view.loc (thr L d) ↦[(rowV L).view.set]{fullShare} hist W) ∗
            (∃ f : Buf (Elt F) (a4.view.loc (thr L d)), (a4.view.loc (thr L d) ↦{fullShare} f)) ∗
            (∃ f : Buf (Elt F) (a5.view.loc (thr L d)), (a5.view.loc (thr L d) ↦{fullShare} f)) ∗
            (∃ f : Buf (Elt F) (a6.view.loc (thr L d)), (a6.view.loc (thr L d) ↦{fullShare} f)) ∗
            (∃ f : Buf (Elt F) (a7.view.loc (thr L d)), (a7.view.loc (thr L d) ↦{fullShare} f)) ∗
            semVal (thr L d, .dma cc0_scratch4.sem) 0 ∗ semVal (thr L d, .dma cc0_scratch5.sem) 0 ∗ semVal (thr L d, .dma cc0_scoped0.sem) 0 ∗
            ∃ W', ⌜∀ p ∈ W', p ∈ Wd ∨ p.2 = none⌝ ∗ owes (thr L d) O W') := by
  rw [cc0__row_hist_body_eq_skeleton]
  unfold cc0__row_hist_body_skel
  simp only [Prog.lift, Prog.bind_op, Prog.bind_ret]
  iintro ⟨H2a, H2b, H3, H4, H5, H6, H7, Hv4, Hv5, Hv0, #Hmw, Ho⟩
  rw [wp_bind]
  ihave Hw := (loop1 d L f7) $$ H7
  iapply (wp_wand frame (wpE (defs₀ (F := F)) 𝒱₀ (thr L d) none) Set.univ) $$ Hw
  iintro %_ ⟨%fz, %hz, H7⟩
  iapply (fetchA d L q₁ W (1024 * (L 1).val + 512 * (L 0).val + 64 * 0) (by rw [k0_off2_eq]; rfl) (by rw [k0_off2_eq]; rfl) f4) $$ [H2a H4 Hv4]
  · isplitl [H2a]; · iexact H2a
    isplitl [H4]; · iexact H4
    iexact Hv4
  iintro HA
  rw [wp_bind]
  ihave Hw := (loop2 d L q₁ q₂ W O Wd) $$ [HA H2b H5 H6 Hv5 Ho]
  · unfold Inv2
    rw [if_pos (by omega)]
    isplitl [HA]; · iexact HA
    isplitl [H5]; · iexists f5; iexact H5
    isplitl [H2b]; · iexact H2b
    isplitl [Hv5]; · iexact Hv5
    isplitl [H6]
    · iexists f6
      isplitr; · ipureintro; intro R l hR; omega
      iexact H6
    isplitr; · iexact Hmw
    iexists Wd
    isplitr; · ipureintro; exact fun p hp => .inl hp
    iexact Ho
  iapply (wp_wand frame (wpE (defs₀ (F := F)) 𝒱₀ (thr L d) none) Set.univ) $$ Hw
  iintro %_ HI
  unfold Inv2
  rw [if_neg (by omega)]
  icases HI with ⟨⟨H4, H2a, Hv4⟩, H5, H2b, Hv5, ⟨%ft, %hT, H6⟩, -, %W', %hW, Ho⟩
  rw [wp_bind]
  ihave Hw := (loop5 d L W (1024 * (L 1).val + 512 * (L 0).val) ft fz hT hz hb) $$ [H6 H7]
  · isplitl [H6]; · iexact H6
    iexact H7
  iapply (wp_wand frame (wpE (defs₀ (F := F)) 𝒱₀ (thr L d) none) Set.univ) $$ Hw
  iintro %_ ⟨H6, %fh, %hh, H7⟩
  iapply (Transfers.wp_dmaLocal EC 𝒱₀ (thr L d) none (src := a7) (dst := rowV L) (via := .same) (Sd := (rowV L).view.set) (fd := f3) (fs := fh) (q := fullShare)
    none ((rowV L).view.amount (.dma cc0_scoped0.sem)) rfl (View.amount_pos _ _ (show 0 < S4608.numel by decide)) (Finset.Subset.refl _)) $$ [H7 H3 Hv0]
  · isplitl [H7]
    · iapply (Entails.of_eq (congrArg (fun I => (a7.view.loc (thr L d) ↦[I]{fullShare} fh : sProp 𝕄)) (View.set_whole cc0_scratch3).symm)) $$ H7
    isplitl [H3]; · iexact H3
    iexact Hv0
  iintro HF
  iapply (Transfers.wp_waitLocalO EC 𝒱₀ (thr L d) none none rfl) $$ [HF Ho]
  · isplitl [HF]; · iexact HF
    isplitl [Ho]; · iexact Ho
    iapply (MayWaits.elim (SemLoc.dma cc0_scoped0.sem)); iexact Hmw
  iintro ⟨⟨H3, H7⟩, Hv0, Ho⟩
  sl_step
  isplitl [H2a]; · iexact H2a
  isplitl [H2b]; · iexact H2b
  isplitl [H3]
  · iapply (Entails.of_eq (pointsTo_congr (row_write (F := F) L W f3 fh hh))) $$ H3
  isplitl [H4]; · iexact H4
  isplitl [H5]; · iexact H5
  isplitl [H6]; · iexists ft; iexact H6
  isplitl [H7]
  · iexists fh
    iapply (Entails.of_eq (congrArg (fun I => (a7.view.loc (thr L d) ↦[I]{fullShare} fh : sProp 𝕄)) (View.set_whole cc0_scratch3))) $$ H7
  isplitl [Hv4]; · iexact Hv4
  isplitl [Hv5]; · iexact Hv5
  isplitl [Hv0]; · iexact Hv0
  iexists _
  isplitr
  rotate_left
  · iexact Ho
  ipureintro
  exact ret_none hW _

end Cert.Proof
-- ==== Proof.Rows1.lean ====
/-
  The second call's thirty-two copies on one semaphore: the tile's columns of the histograms, fetched row by row.
-/
module

public import proofs.«01_k».proof.Proof.Body0

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-! ## The second call's operands and buffers, as the body is handed them -/

abbrev b3 : Memref sig Kind.scVector Space.hbm S4096 EltTy.f32 := Memref.whole main_arg0_scv
abbrev b4 : Memref sig Kind.scVector Space.hbm S4096 EltTy.f32 := Memref.whole main_v4_scv
abbrev b5 : Memref sig Kind.scVector Space.vmem S32x128 EltTy.i32 := Memref.whole cc1_scratch0
abbrev b6 : Memref sig Kind.scVector Space.vmem S128 EltTy.f32 := Memref.whole cc1_scratch1
abbrev b7 : Memref sig Kind.scVector Space.vmem S128 EltTy.f32 := Memref.whole cc1_scratch2

abbrev cV1 (L : grid1.Coords) : Fin τ.nSC := (L 0).castLE hcore1
abbrev jV1 (L : grid1.Coords) : Fin τ.nSub := (L 1).castLE hsub1
abbrev thr1 (L : grid1.Coords) (d : Dev nD) : Thread nD τ := V d (cV1 L) (jV1 L)

/-- The first of the tile's one hundred and twenty-eight results. -/
abbrev col (L : grid1.Coords) : ℕ := 256 * (L 1).val + 128 * (L 0).val

theorem col_lt (L : grid1.Coords) : col L + 128 ≤ 4096 := by
  have h0 : (L 0).val < 2 := (L 0).isLt
  have h1 : (L 1).val < 16 := (L 1).isLt
  show 256 * (L 1).val + 128 * (L 0).val + 128 ≤ 4096
  omega

theorem src_inb (L : grid1.Coords) {r : ℕ} (hr : r < 32) : ∀ a, (![r, col L] : Fin 2 → ℕ) a + S1x128.size a ≤ S32x4608.size a := by
  have hc := col_lt L
  intro a; fin_cases a
  · show r + 1 ≤ 32; omega
  · show col L + 128 ≤ 4608; omega

theorem dst_inb {r : ℕ} (hr : r < 32) : ∀ a, (![r, 0] : Fin 2 → ℕ) a + S1x128.size a ≤ S32x128.size a := by
  intro a; fin_cases a
  · show r + 1 ≤ 32; omega
  · show 0 + 128 ≤ 128; omega

/-- Row `r` of the histograms at the tile's bins, and row `r` of the tile's buffer, as the body names them. -/
abbrev srcRow (L : grid1.Coords) {r : ℕ} (hr : r < 32) : Memref sig .scVector .hbm S128 .i32 :=
  (a3.slice (Rect.unit (s := S32x4608) ![r, col L] S1x128.size (src_inb L hr)) (fun _ => rfl)).squeeze S128 squeezes_S1x128_S128

abbrev dstRow {r : ℕ} (hr : r < 32) : Memref sig .scVector .vmem S128 .i32 :=
  (b5.slice (Rect.unit (s := S32x128) ![r, 0] S1x128.size (dst_inb hr)) (fun _ => rfl)).squeeze S128 squeezes_S1x128_S128

def srcSet (L : grid1.Coords) (r : ℕ) : Finset S32x4608.Idx :=
  Finset.univ.filter fun y => (y 0).val = r ∧ col L ≤ (y 1).val ∧ (y 1).val < col L + 128

def dstSet (r : ℕ) : Finset S32x128.Idx := Finset.univ.filter fun y => (y 0).val = r

theorem src_set (L : grid1.Coords) {r : ℕ} (hr : r < 32) : (srcRow L hr).view.set = srcSet L r := by
  show (((View.whole main_v3_scv).slice _).reshape S128 _).set = _
  rw [View.set_reshape, View.set_slice_whole]
  ext y
  refine Rect.mem_set_unit.trans ?_
  unfold srcSet
  rw [Finset.mem_filter]
  constructor
  · intro h
    have h0 : r ≤ (y 0).val ∧ (y 0).val < r + 1 := h 0
    have h1 : col L ≤ (y 1).val ∧ (y 1).val < col L + 128 := h 1
    exact ⟨Finset.mem_univ _, by omega, h1⟩
  · rintro ⟨-, h0, h1⟩ a
    fin_cases a
    · show r ≤ (y 0).val ∧ (y 0).val < r + 1; omega
    · exact h1

theorem dst_set {r : ℕ} (hr : r < 32) : (dstRow hr).view.set = dstSet r := by
  show (((View.whole cc1_scratch0).slice _).reshape S128 _).set = _
  rw [View.set_reshape, View.set_slice_whole]
  ext y
  refine Rect.mem_set_unit.trans ?_
  unfold dstSet
  rw [Finset.mem_filter]
  constructor
  · intro h
    have h0 : r ≤ (y 0).val ∧ (y 0).val < r + 1 := h 0
    exact ⟨Finset.mem_univ _, by omega⟩
  · rintro ⟨-, h0⟩ a
    fin_cases a
    · show r ≤ (y 0).val ∧ (y 0).val < r + 1; omega
    · have h1 : (y 1).val < 128 := (y 1).isLt
      show 0 ≤ (y 1).val ∧ (y 1).val < 0 + 128; omega

/-- The tile's columns of the histograms. -/
def block (L : grid1.Coords) (W : S32x4608.Idx → BitVec 32) : S32x128.Idx → BitVec 32 :=
  fun y => at2 (n := 32) (m := 4608) W (y 0).val (col L + (y 1).val)

theorem block_at (L : grid1.Coords) (W : S32x4608.Idx → BitVec 32) (r k : ℕ) (hr : r < 32) (hk : k < 128) :
    at2 (n := 32) (m := 128) (block L W) r k = at2 (n := 32) (m := 4608) W r (col L + k) := by
  rw [at2, dif_pos ⟨hr, hk⟩]; rfl

theorem block_write (L : grid1.Coords) (W : S32x4608.Idx → BitVec 32) {r : ℕ} (hr : r < 32) (f : b5.view.ty.Contents (Elt F)) :
    ∀ i ∈ (dstRow hr).view.set,
      (dstRow hr).view.write (Elt F) f (ReadAs.apply .same ((srcRow L hr).view.read (Elt F) W)) Finset.univ i = block L W i := by
  intro i hi
  obtain ⟨x, -, rfl⟩ := Finset.mem_map.mp hi
  rw [View.write_emb_of_mem (v := (dstRow hr).view) f _ (Finset.mem_univ x)]
  have h1 := cast_read (F := F) (n := 32) (m := 128) (w := 128) (View.whole cc1_scratch0) (block L W) ![r, 0] (dst_inb hr) (by decide) x
  have h2 := cast_read (F := F) (n := 32) (m := 4608) (w := 128) (View.whole main_v3_scv) W ![r, col L] (src_inb L hr) (by decide) x
  show (srcRow L hr).view.read (Elt F) W x = (dstRow hr).view.read (Elt F) (block L W) x
  refine h2.trans (Eq.trans ?_ h1.symm)
  have hx : (x 0).val < 128 := (x 0).isLt
  show at2 (n := 32) (m := 4608) W r (col L + (x 0).val) = at2 (n := 32) (m := 128) (block L W) r (0 + (x 0).val)
  rw [Nat.zero_add, block_at L W r _ hr hx]

/-- What one row's copy counts on the semaphore. -/
abbrev NB : ℕ := (dstRow (r := 0) (by decide)).view.amount (.dma cc1_scratch3.sem)

theorem NB_pos : 0 < NB := View.amount_pos _ _ (show 0 < S128.numel by decide)

theorem dstSet_disj {r r' : ℕ} (h : r ≠ r') : Disjoint (dstSet r) (dstSet r') := by
  rw [Finset.disjoint_left]
  intro y h1 h2
  unfold dstSet at h1 h2
  rw [Finset.mem_filter] at h1 h2
  exact h (h1.2.symm.trans h2.2)

theorem srcSet_disj (L : grid1.Coords) {r r' : ℕ} (h : r ≠ r') : Disjoint (srcSet L r) (srcSet L r') := by
  rw [Finset.disjoint_left]
  intro y h1 h2
  unfold srcSet at h1 h2
  rw [Finset.mem_filter] at h1 h2
  exact h (h1.2.1.symm.trans h2.2.1)

/-- The buffer is its rows. -/
theorem rows_join (d : Dev nD) (L : grid1.Coords) (f : Buf (Elt F) (b5.view.loc (thr1 L d))) :
    (bigSep Finset.univ fun t : Fin 32 => (b5.view.loc (thr1 L d) ↦[dstSet t.val]{fullShare} f))
      = (b5.view.loc (thr1 L d) ↦{fullShare} f : sProp 𝕄) := by
  refine Eq.trans (pointsTo_biUnion (ℓ := b5.view.loc (thr1 L d)) (q := fullShare) (f := f) Finset.univ (fun t : Fin 32 => dstSet t.val)
    (fun t _ t' _ h => dstSet_disj (fun e => h (Fin.ext e)))).symm ?_
  refine congrArg (fun S => (b5.view.loc (thr1 L d) ↦[S]{fullShare} f : sProp 𝕄)) ?_
  ext (y : S32x128.Idx)
  have hy : (y 0).val < 32 := (y 0).isLt
  simp only [Finset.mem_biUnion, Finset.mem_univ, true_and, iff_true]
  exact ⟨⟨(y 0).val, hy⟩, by unfold dstSet; exact Finset.mem_filter.mpr ⟨Finset.mem_univ _, rfl⟩⟩

/-- What row `r`'s copy delivers: the buffer's row, and the operand's elements back. -/
def Dlv (d : Dev nD) (L : grid1.Coords) (q : PosShare TreeShare) (W : Buf (Elt F) (a3.view.loc (thr1 L d))) (r : Fin 32) : sProp 𝕄 :=
  iprop((b5.view.loc (thr1 L d) ↦[dstSet r.val]{fullShare} (block L W : Buf (Elt F) (b5.view.loc (thr1 L d)))) ∗
    (a3.view.loc (thr1 L d) ↦[srcSet L r.val]{q} W))

instance (d : Dev nD) (L : grid1.Coords) (q : PosShare TreeShare) (W : Buf (Elt F) (a3.view.loc (thr1 L d))) (r : Fin 32) :
    Storable (upEmb : UEmb _ 𝕄) (Dlv d L q W r) := by
  unfold Dlv; infer_instance

/-- The copies of the rows before `r` started, the others' rows in hand. -/
def Iss (d : Dev nD) (L : grid1.Coords) (q : PosShare TreeShare) (W : Buf (Elt F) (a3.view.loc (thr1 L d)))
    (f : Buf (Elt F) (b5.view.loc (thr1 L d))) (r : ℕ) : sProp 𝕄 :=
  iprop((bigSep (pending (n := 32) r) fun t => iprop((a3.view.loc (thr1 L d) ↦[srcSet L t.val]{q} W) ∗ (b5.view.loc (thr1 L d) ↦[dstSet t.val]{fullShare} f))) ∗
    Batch EC (thr1 L d) (.dma cc1_scratch3.sem) none NB (Dlv d L q W) r 0)

theorem issueRow (d : Dev nD) (L : grid1.Coords) (q : PosShare TreeShare) (W : Buf (Elt F) (a3.view.loc (thr1 L d)))
    (f : Buf (Elt F) (b5.view.loc (thr1 L d))) (r : ℕ) (hr : r < 32)
    {offs : Fin 2 → ℕ} {inbs : ∀ a, offs a + S1x128.size a ≤ S32x4608.size a} (hs : offs = ![r, col L])
    {offd : Fin 2 → ℕ} {inbd : ∀ a, offd a + S1x128.size a ≤ S32x128.size a} (hd : offd = ![r, 0]) {h1} {h2} {h3} {α : Type}
    {k : PUnit → Prog (TpuEff nD τ sig (Elt F) Λ₀ (thr1 L d).2) α} {Q : α → sProp 𝕄} :
    (Iss d L q W f r : sProp 𝕄)
      ⊢ iprop((Iss d L q W f (r + 1) -∗ wp frame (wpE (defs₀ (F := F)) 𝒱₀ (thr1 L d) none) Set.univ (k ⟨⟩) Q) -∗
          wp frame (wpE (defs₀ (F := F)) 𝒱₀ (thr1 L d) none) Set.univ
            (.op (.enqueueDma ((a3.slice (Rect.unit (s := S32x4608) offs S1x128.size inbs) (fun _ => rfl)).squeeze S128 squeezes_S1x128_S128)
              (.here ((b5.slice (Rect.unit (s := S32x128) offd S1x128.size inbd) (fun _ => rfl)).squeeze S128 squeezes_S1x128_S128))
              (.dma cc1_scratch3.sem) h1 h2 h3) k) Q) := by
  subst hs hd
  unfold Iss
  iintro ⟨Hp, HB⟩ Hk
  ihave Hp := (Entails.of_eq (show (bigSep (pending (n := 32) r) fun t => iprop((a3.view.loc (thr1 L d) ↦[srcSet L t.val]{q} W) ∗ (b5.view.loc (thr1 L d) ↦[dstSet t.val]{fullShare} f)) : sProp 𝕄)
      = iprop(((a3.view.loc (thr1 L d) ↦[srcSet L r]{q} W) ∗ (b5.view.loc (thr1 L d) ↦[dstSet r]{fullShare} f)) ∗
        bigSep (pending (n := 32) (r + 1)) fun t => iprop((a3.view.loc (thr1 L d) ↦[srcSet L t.val]{q} W) ∗ (b5.view.loc (thr1 L d) ↦[dstSet t.val]{fullShare} f)))
      from by rw [pending_succ hr, bigSep_insert (not_mem_pending_succ hr)]; rfl)) $$ Hp
  icases Hp with ⟨⟨Hs, Hd⟩, Hrest⟩
  iapply (Transfers.wp_dmaBatch EC 𝒱₀ (thr1 L d) none (src := srcRow L hr) (dst := dstRow hr) (via := .same) (Sd := (dstRow hr).view.set) (fd := f) (fs := W) (q := q)
    (D := Dlv d L q W) (j := r) (u := 0) none NB rfl (Finset.Subset.refl _) hr (Nat.zero_le _) ?_) $$ [Hs Hd HB]
  · unfold Dlv
    rw [pointsTo_congr (block_write (F := F) L W hr f), src_set, dst_set]
  · isplitl [Hs]
    · rw [src_set L hr]; iexact Hs
    isplitl [Hd]
    · rw [dst_set hr]; iexact Hd
    iexact HB
  iintro HB
  iapply Hk
  isplitl [Hrest]; · iexact Hrest
  iexact HB

/-- The waits for the first `r` rows done. -/
def Drn (d : Dev nD) (L : grid1.Coords) (q : PosShare TreeShare) (W : Buf (Elt F) (a3.view.loc (thr1 L d)))
    (O : CellTallies nD τ sig (HIx 2)) (Wd : Finset (SemLoc sig × HIx 2)) (r : ℕ) : sProp 𝕄 :=
  iprop(Batch EC (thr1 L d) (.dma cc1_scratch3.sem) none NB (Dlv d L q W) 32 (r * NB) ∗
    ∃ W', ⌜∀ p ∈ W', p ∈ Wd ∨ p.2 = none⌝ ∗ owes (thr1 L d) O W')

theorem waitRow (d : Dev nD) (L : grid1.Coords) (q : PosShare TreeShare) (W : Buf (Elt F) (a3.view.loc (thr1 L d)))
    (O : CellTallies nD τ sig (HIx 2)) (Wd : Finset (SemLoc sig × HIx 2)) (r : ℕ) (hr : r + 1 < 32)
    {srcw : Memref sig .scVector .hbm S128 .i32} {offd : Fin 2 → ℕ} {inbd : ∀ a, offd a + S1x128.size a ≤ S32x128.size a} {h1} {h2} {α : Type}
    {k : PUnit → Prog (TpuEff nD τ sig (Elt F) Λ₀ (thr1 L d).2) α} {Q : α → sProp 𝕄} :
    iprop(Drn d L q W O Wd r ∗ MayWaits (thr1 L d) none O : sProp 𝕄)
      ⊢ iprop((Drn d L q W O Wd (r + 1) -∗ wp frame (wpE (defs₀ (F := F)) 𝒱₀ (thr1 L d) none) Set.univ (k ⟨⟩) Q) -∗
          wp frame (wpE (defs₀ (F := F)) 𝒱₀ (thr1 L d) none) Set.univ
            (.op (.waitDma2 cc1_scratch3.sem srcw ((b5.slice (Rect.unit (s := S32x128) offd S1x128.size inbd) (fun _ => rfl)).squeeze S128 squeezes_S1x128_S128) h1 h2) k) Q) := by
  unfold Drn
  iintro ⟨⟨HB, %W', %hW, Ho⟩, Hm⟩ Hk
  iapply (Transfers.wp_waitBatchO EC 𝒱₀ (thr1 L d) none (srcw := srcw) (dstw := ((b5.slice (Rect.unit (s := S32x128) offd S1x128.size inbd) (fun _ => rfl)).squeeze S128 squeezes_S1x128_S128)) none (N := NB) rfl (D := Dlv d L q W) (u := r * NB)
    (by have := NB_pos; have := Nat.mul_lt_mul_of_pos_right hr NB_pos; rw [Nat.mul_comm NB 32, ← Nat.succ_mul]; exact this)) $$ [HB Ho Hm]
  · isplitl [HB]; · iexact HB
    isplitl [Ho]; · iexact Ho
    iapply (MayWaits.elim (SemLoc.dma cc1_scratch3.sem)); iexact Hm
  iintro ⟨HB, Ho⟩
  iapply Hk
  isplitl [HB]
  · rw [Nat.succ_mul]; iexact HB
  iexists _
  isplitr
  rotate_left
  · iexact Ho
  ipureintro
  exact ret_none hW _

theorem waitLast (d : Dev nD) (L : grid1.Coords) (q : PosShare TreeShare) (W : Buf (Elt F) (a3.view.loc (thr1 L d)))
    (O : CellTallies nD τ sig (HIx 2)) (Wd : Finset (SemLoc sig × HIx 2))
    {srcw : Memref sig .scVector .hbm S128 .i32} {offd : Fin 2 → ℕ} {inbd : ∀ a, offd a + S1x128.size a ≤ S32x128.size a} {h1} {h2} {α : Type}
    {k : PUnit → Prog (TpuEff nD τ sig (Elt F) Λ₀ (thr1 L d).2) α} {Q : α → sProp 𝕄} :
    iprop(Drn d L q W O Wd 31 ∗ MayWaits (thr1 L d) none O : sProp 𝕄)
      ⊢ iprop((((b5.view.loc (thr1 L d) ↦{fullShare} (block L W : Buf (Elt F) (b5.view.loc (thr1 L d)))) ∗
              (bigSep Finset.univ fun t : Fin 32 => (a3.view.loc (thr1 L d) ↦[srcSet L t.val]{q} W)) ∗
              semVal (thr1 L d, .dma cc1_scratch3.sem) 0 ∗ ∃ W', ⌜∀ p ∈ W', p ∈ Wd ∨ p.2 = none⌝ ∗ owes (thr1 L d) O W')
            -∗ wp frame (wpE (defs₀ (F := F)) 𝒱₀ (thr1 L d) none) Set.univ (k ⟨⟩) Q) -∗
          wp frame (wpE (defs₀ (F := F)) 𝒱₀ (thr1 L d) none) Set.univ
            (.op (.waitDma2 cc1_scratch3.sem srcw ((b5.slice (Rect.unit (s := S32x128) offd S1x128.size inbd) (fun _ => rfl)).squeeze S128 squeezes_S1x128_S128) h1 h2) k) Q) := by
  unfold Drn
  iintro ⟨⟨HB, %W', %hW, Ho⟩, Hm⟩ Hk
  iapply (Transfers.wp_waitBatchLastO EC 𝒱₀ (thr1 L d) none (srcw := srcw) (dstw := ((b5.slice (Rect.unit (s := S32x128) offd S1x128.size inbd) (fun _ => rfl)).squeeze S128 squeezes_S1x128_S128)) none (N := NB) rfl NB_pos (D := Dlv d L q W) (u := 31 * NB)
    (by rw [Nat.mul_comm NB 32, ← Nat.succ_mul])) $$ [HB Ho Hm]
  · isplitl [HB]; · iexact HB
    isplitl [Ho]; · iexact Ho
    iapply (MayWaits.elim (SemLoc.dma cc1_scratch3.sem)); iexact Hm
  iintro ⟨HD, Hv, Ho⟩
  iapply Hk
  ihave HD := (Entails.of_eq (show (bigSep Finset.univ (Dlv d L q W) : sProp 𝕄) = _ from (bigSep_sep' Finset.univ (fun t : Fin 32 => (b5.view.loc (thr1 L d) ↦[dstSet t.val]{fullShare} (block L W : Buf (Elt F) (b5.view.loc (thr1 L d))) : sProp 𝕄))
    (fun t : Fin 32 => (a3.view.loc (thr1 L d) ↦[srcSet L t.val]{q} W))))) $$ HD
  icases HD with ⟨Hd, Hs⟩
  isplitl [Hd]
  · ihave Hd := (Entails.of_eq (rows_join d L (block L W))) $$ Hd
    iexact Hd
  isplitl [Hs]; · iexact Hs
  isplitl [Hv]; · iexact Hv
  iexists _
  isplitr
  rotate_left
  · iexact Ho
  ipureintro
  exact ret_none hW _

end Cert.Proof
-- ==== Proof.Dma1.lean ====
/-
  The second call's copies, part by part: the rows started, the probabilities fetched, the rows waited for.
-/
module

public import proofs.«01_k».proof.Proof.Rows1

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-- The tile's probabilities. -/
def probs (L : grid1.Coords) (p : S4096.Idx → F .f32) : S128.Idx → F .f32 :=
  fun x => p (ix1 (n := 4096) (col L + (x 0).val) (by have h := col_lt L; have hx : (x 0).val < 128 := (x 0).isLt; omega))

theorem read_probs (L : grid1.Coords) (p : S4096.Idx → F .f32) {off : Fin 1 → ℕ} (h : ∀ a, off a + S128.size a ≤ S4096.size a) (h0 : off 0 = col L) :
    ((View.whole main_arg0_scv).slice (Rect.unit (s := S4096) off S128.size h)).read (Elt F) p = probs L p := by
  funext x
  show p ((Rect.unit (s := S4096) off S128.size h).emb x) = _
  unfold probs
  congr 1
  funext a
  fin_cases a
  refine Fin.ext ?_
  show off 0 + 1 * (x 0).val = col L + (x 0).val
  rw [h0]; omega

theorem issue_part1 (d : Dev nD) (L : grid1.Coords) (q : PosShare TreeShare) (W : Buf (Elt F) (a3.view.loc (thr1 L d))) (f : Buf (Elt F) (b5.view.loc (thr1 L d))) :
    (Iss d L q W f 0 : sProp 𝕄)
      ⊢ wp frame (wpE (defs₀ (F := F)) 𝒱₀ (thr1 L d) none) Set.univ
          (k1_part1 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 4 := by
  rw [k1_part1_eq_skeleton]
  unfold k1_part1_skel
  simp only [Prog.lift, Prog.bind_op, Prog.bind_ret]
  iintro H
  iapply (issueRow d L q W f 0 (by decide) (by rw [k1_off1_eq]) rfl) $$ H
  iintro H
  iapply (issueRow d L q W f 1 (by decide) (by rw [k1_off2_eq]) rfl) $$ H
  iintro H
  iapply (issueRow d L q W f 2 (by decide) (by rw [k1_off3_eq]) rfl) $$ H
  iintro H
  iapply (issueRow d L q W f 3 (by decide) (by rw [k1_off4_eq]) rfl) $$ H
  iintro H
  sl_step
  iexact H

theorem issue_part2 (d : Dev nD) (L : grid1.Coords) (q : PosShare TreeShare) (W : Buf (Elt F) (a3.view.loc (thr1 L d))) (f : Buf (Elt F) (b5.view.loc (thr1 L d))) :
    (Iss d L q W f 4 : sProp 𝕄)
      ⊢ wp frame (wpE (defs₀ (F := F)) 𝒱₀ (thr1 L d) none) Set.univ
          (k1_part2 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 8 := by
  rw [k1_part2_eq_skeleton]
  unfold k1_part2_skel
  simp only [Prog.lift, Prog.bind_op, Prog.bind_ret]
  iintro H
  iapply (issueRow d L q W f 4 (by decide) (by rw [k1_off5_eq]) rfl) $$ H
  iintro H
  iapply (issueRow d L q W f 5 (by decide) (by rw [k1_off6_eq]) rfl) $$ H
  iintro H
  iapply (issueRow d L q W f 6 (by decide) (by rw [k1_off7_eq]) rfl) $$ H
  iintro H
  iapply (issueRow d L q W f 7 (by decide) (by rw [k1_off8_eq]) rfl) $$ H
  iintro H
  sl_step
  iexact H

theorem issue_part3 (d : Dev nD) (L : grid1.Coords) (q : PosShare TreeShare) (W : Buf (Elt F) (a3.view.loc (thr1 L d))) (f : Buf (Elt F) (b5.view.loc (thr1 L d))) :
    (Iss d L q W f 8 : sProp 𝕄)
      ⊢ wp frame (wpE (defs₀ (F := F)) 𝒱₀ (thr1 L d) none) Set.univ
          (k1_part3 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 13 := by
  rw [k1_part3_eq_skeleton]
  unfold k1_part3_skel
  simp only [Prog.lift, Prog.bind_op, Prog.bind_ret]
  iintro H
  iapply (issueRow d L q W f 8 (by decide) (by rw [k1_off9_eq]) rfl) $$ H
  iintro H
  iapply (issueRow d L q W f 9 (by decide) (by rw [k1_off10_eq]) rfl) $$ H
  iintro H
  iapply (issueRow d L q W f 10 (by decide) (by rw [k1_off11_eq]) rfl) $$ H
  iintro H
  iapply (issueRow d L q W f 11 (by decide) (by rw [k1_off12_eq]) rfl) $$ H
  iintro H
  iapply (issueRow d L q W f 12 (by decide) (by rw [k1_off13_eq]) rfl) $$ H
  iintro H
  sl_step
  iexact H

theorem issue_part4 (d : Dev nD) (L : grid1.Coords) (q : PosShare TreeShare) (W : Buf (Elt F) (a3.view.loc (thr1 L d))) (f : Buf (Elt F) (b5.view.loc (thr1 L d))) :
    (Iss d L q W f 13 : sProp 𝕄)
      ⊢ wp frame (wpE (defs₀ (F := F)) 𝒱₀ (thr1 L d) none) Set.univ
          (k1_part4 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 17 := by
  rw [k1_part4_eq_skeleton]
  unfold k1_part4_skel
  simp only [Prog.lift, Prog.bind_op, Prog.bind_ret]
  iintro H
  iapply (issueRow d L q W f 13 (by decide) (by rw [k1_off14_eq]) rfl) $$ H
  iintro H
  iapply (issueRow d L q W f 14 (by decide) (by rw [k1_off15_eq]) rfl) $$ H
  iintro H
  iapply (issueRow d L q W f 15 (by decide) (by rw [k1_off16_eq]) rfl) $$ H
  iintro H
  iapply (issueRow d L q W f 16 (by decide) (by rw [k1_off17_eq]) rfl) $$ H
  iintro H
  sl_step
  iexact H

theorem issue_part5 (d : Dev nD) (L : grid1.Coords) (q : PosShare TreeShare) (W : Buf (Elt F) (a3.view.loc (thr1 L d))) (f : Buf (Elt F) (b5.view.loc (thr1 L d))) :
    (Iss d L q W f 17 : sProp 𝕄)
      ⊢ wp frame (wpE (defs₀ (F := F)) 𝒱₀ (thr1 L d) none) Set.univ
          (k1_part5 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 22 := by
  rw [k1_part5_eq_skeleton]
  unfold k1_part5_skel
  simp only [Prog.lift, Prog.bind_op, Prog.bind_ret]
  iintro H
  iapply (issueRow d L q W f 17 (by decide) (by rw [k1_off18_eq]) rfl) $$ H
  iintro H
  iapply (issueRow d L q W f 18 (by decide) (by rw [k1_off19_eq]) rfl) $$ H
  iintro H
  iapply (issueRow d L q W f 19 (by decide) (by rw [k1_off20_eq]) rfl) $$ H
  iintro H
  iapply (issueRow d L q W f 20 (by decide) (by rw [k1_off21_eq]) rfl) $$ H
  iintro H
  iapply (issueRow d L q W f 21 (by decide) (by rw [k1_off22_eq]) rfl) $$ H
  iintro H
  sl_step
  iexact H

theorem issue_part6 (d : Dev nD) (L : grid1.Coords) (q : PosShare TreeShare) (W : Buf (Elt F) (a3.view.loc (thr1 L d))) (f : Buf (Elt F) (b5.view.loc (thr1 L d))) :
    (Iss d L q W f 22 : sProp 𝕄)
      ⊢ wp frame (wpE (defs₀ (F := F)) 𝒱₀ (thr1 L d) none) Set.univ
          (k1_part6 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 27 := by
  rw [k1_part6_eq_skeleton]
  unfold k1_part6_skel
  simp only [Prog.lift, Prog.bind_op, Prog.bind_ret]
  iintro H
  iapply (issueRow d L q W f 22 (by decide) (by rw [k1_off23_eq]) rfl) $$ H
  iintro H
  iapply (issueRow d L q W f 23 (by decide) (by rw [k1_off24_eq]) rfl) $$ H
  iintro H
  iapply (issueRow d L q W f 24 (by decide) (by rw [k1_off25_eq]) rfl) $$ H
  iintro H
  iapply (issueRow d L q W f 25 (by decide) (by rw [k1_off26_eq]) rfl) $$ H
  iintro H
  iapply (issueRow d L q W f 26 (by decide) (by rw [k1_off27_eq]) rfl) $$ H
  iintro H
  sl_step
  iexact H

theorem issue_part7 (d : Dev nD) (L : grid1.Coords) (q : PosShare TreeShare) (W : Buf (Elt F) (a3.view.loc (thr1 L d))) (f : Buf (Elt F) (b5.view.loc (thr1 L d))) :
    (Iss d L q W f 27 : sProp 𝕄)
      ⊢ wp frame (wpE (defs₀ (F := F)) 𝒱₀ (thr1 L d) none) Set.univ
          (k1_part7 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Iss d L q W f 31 := by
  rw [k1_part7_eq_skeleton]
  unfold k1_part7_skel
  simp only [Prog.lift, Prog.bind_op, Prog.bind_ret]
  iintro H
  iapply (issueRow d L q W f 27 (by decide) (by rw [k1_off28_eq]) rfl) $$ H
  iintro H
  iapply (issueRow d L q W f 28 (by decide) (by rw [k1_off29_eq]) rfl) $$ H
  iintro H
  iapply (issueRow d L q W f 29 (by decide) (by rw [k1_off30_eq]) rfl) $$ H
  iintro H
  iapply (issueRow d L q W f 30 (by decide) (by rw [k1_off31_eq]) rfl) $$ H
  iintro H
  sl_step
  iexact H

theorem drn_of_iss (d : Dev nD) (L : grid1.Coords) (q : PosShare TreeShare) (W : Buf (Elt F) (a3.view.loc (thr1 L d))) (f : Buf (Elt F) (b5.view.loc (thr1 L d)))
    (O : CellTallies nD τ sig (HIx 2)) (Wd W' : Finset (SemLoc sig × HIx 2)) (hW : ∀ p ∈ W', p ∈ Wd ∨ p.2 = none) :
    iprop(Iss d L q W f 32 ∗ owes (thr1 L d) O W' : sProp 𝕄) ⊢ Drn d L q W O Wd 0 := by
  unfold Iss Drn
  rw [Nat.zero_mul]
  iintro ⟨⟨-, HB⟩, Ho⟩
  isplitl [HB]; · iexact HB
  iexists W'
  isplitr; · ipureintro; exact hW
  iexact Ho

theorem turn_part8 (d : Dev nD) (L : grid1.Coords) (q : PosShare TreeShare) (W : Buf (Elt F) (a3.view.loc (thr1 L d))) (f : Buf (Elt F) (b5.view.loc (thr1 L d)))
    (q' : PosShare TreeShare) (p : Buf (Elt F) (b3.view.loc (thr1 L d))) (f6 : Buf (Elt F) (b6.view.loc (thr1 L d)))
    (O : CellTallies nD τ sig (HIx 2)) (Wd : Finset (SemLoc sig × HIx 2)) :
    iprop(Iss d L q W f 31 ∗ (b3.view.loc (thr1 L d) ↦{q'} p) ∗ (b6.view.loc (thr1 L d) ↦{fullShare} f6) ∗
        semVal (thr1 L d, .dma cc1_scoped0.sem) 0 ∗ MayWaits (thr1 L d) none O ∗ owes (thr1 L d) O Wd : sProp 𝕄)
      ⊢ wp frame (wpE (defs₀ (F := F)) 𝒱₀ (thr1 L d) none) Set.univ
          (k1_part8 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => iprop(Drn d L q W O Wd 3 ∗ (b3.view.loc (thr1 L d) ↦{q'} p) ∗
            (b6.view.loc (thr1 L d) ↦{fullShare} (probs L p : Buf (Elt F) (b6.view.loc (thr1 L d)))) ∗ semVal (thr1 L d, .dma cc1_scoped0.sem) 0) := by
  rw [k1_part8_eq_skeleton]
  unfold k1_part8_skel
  simp only [Prog.lift, Prog.bind_op, Prog.bind_ret]
  iintro ⟨H, H3, H6, Hv, #Hm, Ho⟩
  iapply (issueRow d L q W f 31 (by decide) (by rw [k1_off32_eq]) rfl) $$ H
  iintro H
  ihave H3 := (pointsTo_split_subset (S := Finset.univ) (I := (b3.slice (Rect.unit (s := S4096) (k1_off33 L) S128.size (k1_off33_inb L)) (fun _ => rfl)).view.set)
    (Finset.subset_univ _)).1 $$ H3
  icases H3 with ⟨H3, H3r⟩
  iapply (Transfers.wp_dmaLocal EC 𝒱₀ (thr1 L d) none (src := b3.slice (Rect.unit (s := S4096) (k1_off33 L) S128.size (k1_off33_inb L)) (fun _ => rfl))
    (dst := b6) (via := .same) (Sd := Finset.univ) (fd := f6) (fs := p) none _ rfl (View.amount_pos _ _ (show 0 < S128.numel by decide)) (Finset.subset_univ _))
    $$ [H3 H6 Hv]
  · isplitl [H3]; · iexact H3
    isplitl [H6]; · iexact H6
    iexact Hv
  iintro HF
  iapply (Transfers.wp_waitLocalO EC 𝒱₀ (thr1 L d) none none rfl) $$ [HF Ho]
  · isplitl [HF]; · iexact HF
    isplitl [Ho]; · iexact Ho
    iapply (MayWaits.elim (SemLoc.dma cc1_scoped0.sem)); iexact Hm
  iintro ⟨⟨H6, H3⟩, Hv, Ho⟩
  ihave H := (drn_of_iss d L q W f O Wd (insert (SemLoc.dma cc1_scoped0.sem, none) Wd) (ret_none (fun p hp => .inl hp) _)) $$ [H Ho]
  · isplitl [H]; · iexact H
    iexact Ho
  iapply (waitRow d L q W O Wd 0 (by decide)) $$ [H]
  · isplitl [H]; · iexact H
    iexact Hm
  iintro H
  iapply (waitRow d L q W O Wd 1 (by decide)) $$ [H]
  · isplitl [H]; · iexact H
    iexact Hm
  iintro H
  iapply (waitRow d L q W O Wd 2 (by decide)) $$ [H]
  · isplitl [H]; · iexact H
    iexact Hm
  iintro H
  sl_step
  isplitl [H]; · iexact H
  isplitl [H3 H3r]
  · iapply (pointsTo_split_subset (S := Finset.univ) (I := (b3.slice (Rect.unit (s := S4096) (k1_off33 L) S128.size (k1_off33_inb L)) (fun _ => rfl)).view.set) (Finset.subset_univ _)).2
    isplitl [H3]; · iexact H3
    iexact H3r
  isplitl [H6]
  · iapply (Entails.of_eq (congrArg (fun g => (b6.view.loc (thr1 L d) ↦{fullShare} g : sProp 𝕄)) (show b6.view.write (Elt F) f6 (ReadAs.apply .same
      ((b3.slice (Rect.unit (s := S4096) (k1_off33 L) S128.size (k1_off33_inb L)) (fun _ => rfl)).view.read (Elt F) p)) Finset.univ = probs L p from
        (View.write_whole_univ _ _ _).trans (read_probs L p (k1_off33_inb L) (by rw [k1_off33_eq]; rfl))))) $$ H6
  iexact Hv

theorem wait_part9 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 3 ∗ MayWaits (thr1 L d) none O : sProp 𝕄)
      ⊢ wp frame (wpE (defs₀ (F := F)) 𝒱₀ (thr1 L d) none) Set.univ
          (k1_part9 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 8 := by
  rw [k1_part9_eq_skeleton]
  unfold k1_part9_skel
  simp only [Prog.lift, Prog.bind_op, Prog.bind_ret]
  iintro ⟨H, #Hm⟩
  iapply (waitRow d L q W O Wd 3 (by decide)) $$ [H]
  · isplitl [H]; · iexact H
    iexact Hm
  iintro H
  iapply (waitRow d L q W O Wd 4 (by decide)) $$ [H]
  · isplitl [H]; · iexact H
    iexact Hm
  iintro H
  iapply (waitRow d L q W O Wd 5 (by decide)) $$ [H]
  · isplitl [H]; · iexact H
    iexact Hm
  iintro H
  iapply (waitRow d L q W O Wd 6 (by decide)) $$ [H]
  · isplitl [H]; · iexact H
    iexact Hm
  iintro H
  iapply (waitRow d L q W O Wd 7 (by decide)) $$ [H]
  · isplitl [H]; · iexact H
    iexact Hm
  iintro H
  sl_step
  iexact H

theorem wait_part10 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 8 ∗ MayWaits (thr1 L d) none O : sProp 𝕄)
      ⊢ wp frame (wpE (defs₀ (F := F)) 𝒱₀ (thr1 L d) none) Set.univ
          (k1_part10 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 13 := by
  rw [k1_part10_eq_skeleton]
  unfold k1_part10_skel
  simp only [Prog.lift, Prog.bind_op, Prog.bind_ret]
  iintro ⟨H, #Hm⟩
  iapply (waitRow d L q W O Wd 8 (by decide)) $$ [H]
  · isplitl [H]; · iexact H
    iexact Hm
  iintro H
  iapply (waitRow d L q W O Wd 9 (by decide)) $$ [H]
  · isplitl [H]; · iexact H
    iexact Hm
  iintro H
  iapply (waitRow d L q W O Wd 10 (by decide)) $$ [H]
  · isplitl [H]; · iexact H
    iexact Hm
  iintro H
  iapply (waitRow d L q W O Wd 11 (by decide)) $$ [H]
  · isplitl [H]; · iexact H
    iexact Hm
  iintro H
  iapply (waitRow d L q W O Wd 12 (by decide)) $$ [H]
  · isplitl [H]; · iexact H
    iexact Hm
  iintro H
  sl_step
  iexact H

theorem wait_part11 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 13 ∗ MayWaits (thr1 L d) none O : sProp 𝕄)
      ⊢ wp frame (wpE (defs₀ (F := F)) 𝒱₀ (thr1 L d) none) Set.univ
          (k1_part11 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 17 := by
  rw [k1_part11_eq_skeleton]
  unfold k1_part11_skel
  simp only [Prog.lift, Prog.bind_op, Prog.bind_ret]
  iintro ⟨H, #Hm⟩
  iapply (waitRow d L q W O Wd 13 (by decide)) $$ [H]
  · isplitl [H]; · iexact H
    iexact Hm
  iintro H
  iapply (waitRow d L q W O Wd 14 (by decide)) $$ [H]
  · isplitl [H]; · iexact H
    iexact Hm
  iintro H
  iapply (waitRow d L q W O Wd 15 (by decide)) $$ [H]
  · isplitl [H]; · iexact H
    iexact Hm
  iintro H
  iapply (waitRow d L q W O Wd 16 (by decide)) $$ [H]
  · isplitl [H]; · iexact H
    iexact Hm
  iintro H
  sl_step
  iexact H

theorem wait_part12 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 17 ∗ MayWaits (thr1 L d) none O : sProp 𝕄)
      ⊢ wp frame (wpE (defs₀ (F := F)) 𝒱₀ (thr1 L d) none) Set.univ
          (k1_part12 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 22 := by
  rw [k1_part12_eq_skeleton]
  unfold k1_part12_skel
  simp only [Prog.lift, Prog.bind_op, Prog.bind_ret]
  iintro ⟨H, #Hm⟩
  iapply (waitRow d L q W O Wd 17 (by decide)) $$ [H]
  · isplitl [H]; · iexact H
    iexact Hm
  iintro H
  iapply (waitRow d L q W O Wd 18 (by decide)) $$ [H]
  · isplitl [H]; · iexact H
    iexact Hm
  iintro H
  iapply (waitRow d L q W O Wd 19 (by decide)) $$ [H]
  · isplitl [H]; · iexact H
    iexact Hm
  iintro H
  iapply (waitRow d L q W O Wd 20 (by decide)) $$ [H]
  · isplitl [H]; · iexact H
    iexact Hm
  iintro H
  iapply (waitRow d L q W O Wd 21 (by decide)) $$ [H]
  · isplitl [H]; · iexact H
    iexact Hm
  iintro H
  sl_step
  iexact H

theorem wait_part13 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 22 ∗ MayWaits (thr1 L d) none O : sProp 𝕄)
      ⊢ wp frame (wpE (defs₀ (F := F)) 𝒱₀ (thr1 L d) none) Set.univ
          (k1_part13 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 27 := by
  rw [k1_part13_eq_skeleton]
  unfold k1_part13_skel
  simp only [Prog.lift, Prog.bind_op, Prog.bind_ret]
  iintro ⟨H, #Hm⟩
  iapply (waitRow d L q W O Wd 22 (by decide)) $$ [H]
  · isplitl [H]; · iexact H
    iexact Hm
  iintro H
  iapply (waitRow d L q W O Wd 23 (by decide)) $$ [H]
  · isplitl [H]; · iexact H
    iexact Hm
  iintro H
  iapply (waitRow d L q W O Wd 24 (by decide)) $$ [H]
  · isplitl [H]; · iexact H
    iexact Hm
  iintro H
  iapply (waitRow d L q W O Wd 25 (by decide)) $$ [H]
  · isplitl [H]; · iexact H
    iexact Hm
  iintro H
  iapply (waitRow d L q W O Wd 26 (by decide)) $$ [H]
  · isplitl [H]; · iexact H
    iexact Hm
  iintro H
  sl_step
  iexact H

theorem wait_part14 (d : Dev nD) (L : grid1.Coords) (q : PosShare TreeShare) (W : Buf (Elt F) (a3.view.loc (thr1 L d)))
    (O : CellTallies nD τ sig (HIx 2)) (Wd : Finset (SemLoc sig × HIx 2)) :
    iprop(Drn d L q W O Wd 27 ∗ MayWaits (thr1 L d) none O : sProp 𝕄)
      ⊢ wp frame (wpE (defs₀ (F := F)) 𝒱₀ (thr1 L d) none) Set.univ
          (k1_part14 L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => Drn d L q W O Wd 31 := by
  rw [k1_part14_eq_skeleton]
  unfold k1_part14_skel
  simp only [Prog.lift, Prog.bind_op, Prog.bind_ret]
  iintro ⟨H, #Hm⟩
  iapply (waitRow d L q W O Wd 27 (by decide)) $$ [H]
  · isplitl [H]; · iexact H
    iexact Hm
  iintro H
  iapply (waitRow d L q W O Wd 28 (by decide)) $$ [H]
  · isplitl [H]; · iexact H
    iexact Hm
  iintro H
  iapply (waitRow d L q W O Wd 29 (by decide)) $$ [H]
  · isplitl [H]; · iexact H
    iexact Hm
  iintro H
  iapply (waitRow d L q W O Wd 30 (by decide)) $$ [H]
  · isplitl [H]; · iexact H
    iexact Hm
  iintro H
  sl_step
  iexact H

end Cert.Proof
-- ==== Proof.Body1.lean ====
/-
  The second call's body: the rows of the histograms added column by column, mixed with the old probabilities and sent out.
-/
module

public import proofs.«01_k».proof.Proof.Dma1

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

/-- One result: the old probability and the batch's, in their proportions. -/
def mixOf (p : F .f32) (n : BitVec 32) : F .f32 :=
  FloatOps.addf (FloatOps.mulf (Scalar.ofBits .f32 0x3F7FBE77#32) p)
    (FloatOps.mulf (Scalar.ofBits .f32 0x3A83126F#32) (FloatOps.mulf (FloatOps.sitofp .f32 n) (Scalar.ofBits .f32 0x38800000#32)))

/-- The tile's `k`-th probability. -/
def pAt (L : grid1.Coords) (p : S4096.Idx → F .f32) (k : ℕ) : F .f32 :=
  if h : col L + k < 4096 then p (ix1 (n := 4096) (col L + k) h) else Scalar.ofBits .f32 0#32

/-- The tile's `k`-th result. -/
def res (L : grid1.Coords) (W : S32x4608.Idx → BitVec 32) (p : S4096.Idx → F .f32) (k : ℕ) : F .f32 :=
  mixOf (pAt L p k) (wsum (fun r => at2 (n := 32) (m := 128) (block L W) r k) 32)

theorem cast_probs (L : grid1.Coords) (p : S4096.Idx → F .f32) (off : Fin 1 → ℕ) (h : ∀ a, off a + S16.size a ≤ S128.size a) (hc : S16.ShapeCasts S16)
    (x : S16.Idx) :
    shapeCast S16 ((View.whole cc1_scratch1).readAt (Elt F) (Rect.unit (s := S128) off S16.size h).toLoadRect (probs L p)) hc x
      = pAt L p (off 0 + (x 0).val) := by
  have h0 : off 0 + 16 ≤ 128 := h 0
  have hx : (x 0).val < 16 := (x 0).isLt
  have hl := col_lt L
  refine (congrFun (shapeCast_self _ hc) x).trans ?_
  rw [pAt, dif_pos (by omega)]
  show probs L p ((Rect.unit (s := S128) off S16.size h).toLoadRect.idx x) = _
  unfold probs
  congr 1
  funext a
  fin_cases a
  refine Fin.ext ?_
  show col L + ((Rect.unit (s := S128) off S16.size h).toLoadRect.idx x 0).val = col L + (off 0 + (x 0).val)
  rw [LoadRect.idx_apply]
  show col L + (off 0 + 1 * (x 0).val) = _
  omega

/-- Sixteen results stored above those already there. -/
theorem store_step (f : b7.view.ty.Contents (Elt F)) (o : ℕ) (h : ∀ a, (![o] : Fin 1 → ℕ) a + S16.size a ≤ S128.size a) (g : S16.Idx → F .f32)
    (ps) (G : ℕ → F .f32) (hg : ∀ x : S16.Idx, g x = G (o + (x 0).val))
    (hr : ∀ y : S128.Idx, (y 0).val < o → b7.view.read (Elt F) (b7.view.writes (Elt F) f ps) y = G (y 0).val) :
    ∀ y : S128.Idx, (y 0).val < o + 16 →
      b7.view.read (Elt F) (b7.view.writes (Elt F) f (⟨Rect.unit (s := S128) ![o] S16.size h, g⟩ :: ps)) y = G (y 0).val := by
  intro y hy
  by_cases ho : (y 0).val < o
  · rw [View.read_writes_cons_miss_of_axis b7.view f _ ps _ 0 o 16 rfl rfl rfl (show (y 0).val < o ∨ o + 16 ≤ (y 0).val by omega)]
    exact hr y ho
  · refine (View.read_writes_cons_hit_of_coords b7.view f (Rect.unit (s := S128) ![o] S16.size h) g ps (ix1 (n := 16) ((y 0).val - o) (by omega) : S16.Idx) y fun a => ?_).trans ?_
    · fin_cases a
      show (y 0).val = o + 1 * ((y 0).val - o)
      omega
    · rw [hg, ix1_val]
      congr 1
      omega

/-- The tile's results, as the body names them in the operand. -/
abbrev outV (L : grid1.Coords) : Memref sig .scVector .hbm S128 .f32 :=
  b4.slice (Rect.unit (s := S4096) (k1_off33 L) S128.size (k1_off33_inb L)) (fun _ => rfl)

/-- The call's results. -/
def out (W : S32x4608.Idx → BitVec 32) (p : S4096.Idx → F .f32) : S4096.Idx → F .f32 :=
  fun y => mixOf (p y) (wsum (fun r => at2 (n := 32) (m := 4608) W r (y 0).val) 32)

theorem out_write (L : grid1.Coords) (W : S32x4608.Idx → BitVec 32) (p : S4096.Idx → F .f32) (f4 : b4.view.ty.Contents (Elt F)) (g : S128.Idx → F .f32)
    (hg : ∀ y : S128.Idx, g y = res L W p (y 0).val) :
    ∀ i ∈ (outV L).view.set, (outV L).view.write (Elt F) f4 g Finset.univ i = out W p i := by
  intro i hi
  obtain ⟨x, -, rfl⟩ := Finset.mem_map.mp hi
  rw [View.write_emb_of_mem (v := (outV L).view) f4 g (Finset.mem_univ x), hg]
  have hx : (x 0).val < 128 := (x 0).isLt
  have hl := col_lt L
  have he : (outV L).view.emb x = ix1 (n := 4096) (col L + (x 0).val) (by omega) := by
    funext a
    fin_cases a
    refine Fin.ext ?_
    show k1_off33 L 0 + 1 * (x 0).val = col L + (x 0).val
    rw [k1_off33_eq]
    show col L + 1 * (x 0).val = _
    omega
  rw [he]
  have e : (fun r => at2 (n := 32) (m := 128) (block L W) r (x 0).val) = fun r => at2 (n := 32) (m := 4608) W r (col L + (x 0).val) := by
    funext r
    by_cases hr : r < 32
    · exact block_at L W r _ hr hx
    · rw [at2, dif_neg (by omega), at2, dif_neg (by omega)]
  unfold res out pAt
  rw [dif_pos (by omega), e, ix1_val]
  rfl

theorem keep_res (d : Dev nD) (L : grid1.Coords) (W : Buf (Elt F) (a3.view.loc (thr1 L d))) (p : Buf (Elt F) (b3.view.loc (thr1 L d))) (g : Buf (Elt F) (b7.view.loc (thr1 L d)))
    (hg : ∀ y : S128.Idx, g y = res L W p (y 0).val) :
    (b7.view.loc (thr1 L d) ↦{fullShare} g : sProp 𝕄)
      ⊢ iprop(∃ g' : Buf (Elt F) (b7.view.loc (thr1 L d)), ⌜∀ y : S128.Idx, g' y = res L W p (y 0).val⌝ ∗ (b7.view.loc (thr1 L d) ↦{fullShare} g')) := by
  iintro H
  iexists g
  isplitr; · ipureintro; exact hg
  iexact H

set_option maxHeartbeats 2000000 in
theorem body1 (d : Dev nD) (L : grid1.Coords) (q : PosShare TreeShare) (W : Buf (Elt F) (a3.view.loc (thr1 L d))) (f : Buf (Elt F) (b5.view.loc (thr1 L d)))
    (q' : PosShare TreeShare) (p : Buf (Elt F) (b3.view.loc (thr1 L d))) (f6 : Buf (Elt F) (b6.view.loc (thr1 L d))) (f7 : Buf (Elt F) (b7.view.loc (thr1 L d)))
    (f4 : Buf (Elt F) (b4.view.loc (thr1 L d))) (O : CellTallies nD τ sig (HIx 2)) (Wd : Finset (SemLoc sig × HIx 2)) :
    iprop(Iss d L q W f 0 ∗ (b3.view.loc (thr1 L d) ↦{q'} p) ∗ ((outV L).view.loc (thr1 L d) ↦[(outV L).view.set]{fullShare} f4) ∗
        (b6.view.loc (thr1 L d) ↦{fullShare} f6) ∗ (b7.view.loc (thr1 L d) ↦{fullShare} f7) ∗
        semVal (thr1 L d, .dma cc1_scoped0.sem) 0 ∗ semVal (thr1 L d, .dma cc1_scoped1.sem) 0 ∗ MayWaits (thr1 L d) none O ∗ owes (thr1 L d) O Wd : sProp 𝕄)
      ⊢ wp frame (wpE (defs₀ (F := F)) 𝒱₀ (thr1 L d) none) Set.univ
          (cc1__combine_body L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => iprop((bigSep Finset.univ fun t : Fin 32 => (a3.view.loc (thr1 L d) ↦[srcSet L t.val]{q} W)) ∗
            (b3.view.loc (thr1 L d) ↦{q'} p) ∗ ((outV L).view.loc (thr1 L d) ↦[(outV L).view.set]{fullShare} (out W p : Buf (Elt F) ((outV L).view.loc (thr1 L d)))) ∗
            (∃ g : Buf (Elt F) (b5.view.loc (thr1 L d)), (b5.view.loc (thr1 L d) ↦{fullShare} g)) ∗
            (∃ g : Buf (Elt F) (b6.view.loc (thr1 L d)), (b6.view.loc (thr1 L d) ↦{fullShare} g)) ∗
            (∃ g : Buf (Elt F) (b7.view.loc (thr1 L d)), (b7.view.loc (thr1 L d) ↦{fullShare} g)) ∗
            semVal (thr1 L d, .dma cc1_scratch3.sem) 0 ∗ semVal (thr1 L d, .dma cc1_scoped0.sem) 0 ∗ semVal (thr1 L d, .dma cc1_scoped1.sem) 0 ∗
            ∃ W', ⌜∀ p ∈ W', p ∈ Wd ∨ p.2 = none⌝ ∗ owes (thr1 L d) O W') := by
  rw [cc1__combine_body_eq_skeleton]
  unfold cc1__combine_body_skel
  rw [wp_bind]
  rw [k1_part43_eq_skeleton]
  unfold k1_part43_skel
  iintro ⟨H, H3, H4, H6, H7, Hv, Hv1, #Hm, Ho⟩
  rw [wp_bind]
  ihave Hw := (issue_part1 d L q W f) $$ H
  iapply (wp_wand frame (wpE (defs₀ (F := F)) 𝒱₀ (thr1 L d) none) Set.univ) $$ Hw
  iintro %_ H
  rw [wp_bind]
  ihave Hw := (issue_part2 d L q W f) $$ H
  iapply (wp_wand frame (wpE (defs₀ (F := F)) 𝒱₀ (thr1 L d) none) Set.univ) $$ Hw
  iintro %_ H
  rw [wp_bind]
  ihave Hw := (issue_part3 d L q W f) $$ H
  iapply (wp_wand frame (wpE (defs₀ (F := F)) 𝒱₀ (thr1 L d) none) Set.univ) $$ Hw
  iintro %_ H
  rw [wp_bind]
  ihave Hw := (issue_part4 d L q W f) $$ H
  iapply (wp_wand frame (wpE (defs₀ (F := F)) 𝒱₀ (thr1 L d) none) Set.univ) $$ Hw
  iintro %_ H
  rw [wp_bind]
  ihave Hw := (issue_part5 d L q W f) $$ H
  iapply (wp_wand frame (wpE (defs₀ (F := F)) 𝒱₀ (thr1 L d) none) Set.univ) $$ Hw
  iintro %_ H
  rw [wp_bind]
  ihave Hw := (issue_part6 d L q W f) $$ H
  iapply (wp_wand frame (wpE (defs₀ (F := F)) 𝒱₀ (thr1 L d) none) Set.univ) $$ Hw
  iintro %_ H
  rw [wp_bind]
  ihave Hw := (issue_part7 d L q W f) $$ H
  iapply (wp_wand frame (wpE (defs₀ (F := F)) 𝒱₀ (thr1 L d) none) Set.univ) $$ Hw
  iintro %_ H
  rw [wp_bind]
  ihave Hw := (turn_part8 d L q W f q' p f6 O Wd) $$ [H H3 H6 Hv Ho]
  · isplitl [H]; · iexact H
    isplitl [H3]; · iexact H3
    isplitl [H6]; · iexact H6
    isplitl [Hv]; · iexact Hv
    isplitr; · iexact Hm
    iexact Ho
  iapply (wp_wand frame (wpE (defs₀ (F := F)) 𝒱₀ (thr1 L d) none) Set.univ) $$ Hw
  iintro %_ ⟨H, H3, H6, Hv⟩
  rw [wp_bind]
  ihave Hw := (wait_part9 d L q W O Wd) $$ [H]
  · isplitl [H]; · iexact H
    iexact Hm
  iapply (wp_wand frame (wpE (defs₀ (F := F)) 𝒱₀ (thr1 L d) none) Set.univ) $$ Hw
  iintro %_ H
  rw [wp_bind]
  ihave Hw := (wait_part10 d L q W O Wd) $$ [H]
  · isplitl [H]; · iexact H
    iexact Hm
  iapply (wp_wand frame (wpE (defs₀ (F := F)) 𝒱₀ (thr1 L d) none) Set.univ) $$ Hw
  iintro %_ H
  rw [wp_bind]
  ihave Hw := (wait_part11 d L q W O Wd) $$ [H]
  · isplitl [H]; · iexact H
    iexact Hm
  iapply (wp_wand frame (wpE (defs₀ (F := F)) 𝒱₀ (thr1 L d) none) Set.univ) $$ Hw
  iintro %_ H
  rw [wp_bind]
  ihave Hw := (wait_part12 d L q W O Wd) $$ [H]
  · isplitl [H]; · iexact H
    iexact Hm
  iapply (wp_wand frame (wpE (defs₀ (F := F)) 𝒱₀ (thr1 L d) none) Set.univ) $$ Hw
  iintro %_ H
  rw [wp_bind]
  ihave Hw := (wait_part13 d L q W O Wd) $$ [H]
  · isplitl [H]; · iexact H
    iexact Hm
  iapply (wp_wand frame (wpE (defs₀ (F := F)) 𝒱₀ (thr1 L d) none) Set.univ) $$ Hw
  iintro %_ H
  rw [wp_bind]
  ihave Hw := (wait_part14 d L q W O Wd) $$ [H]
  · isplitl [H]; · iexact H
    iexact Hm
  iapply (wp_wand frame (wpE (defs₀ (F := F)) 𝒱₀ (thr1 L d) none) Set.univ) $$ Hw
  iintro %_ H
  rw [k1_part15_eq_skeleton]
  unfold k1_part15_skel
  simp only [Prog.lift, Prog.bind_op, Prog.bind_ret]
  iapply (waitLast d L q W O Wd) $$ [H]
  · isplitl [H]; · iexact H
    iexact Hm
  iintro ⟨H5, Hs, Hv3, Ho⟩
  ihave H6 := (Entails.of_eq (show (b6.view.loc (thr1 L d) ↦{fullShare} (probs L p : Buf (Elt F) (b6.view.loc (thr1 L d))) : sProp 𝕄) = _ from rfl)) $$ H6
  ihave H7 := (Entails.of_eq (show (b7.view.loc (thr1 L d) ↦{fullShare} f7 : sProp 𝕄) = _ from rfl)) $$ H7
  sl_exec
  ihave H7 := (keep_res d L W p _ ?_) $$ H7
  · have H := fun off h x => cast_read (F := F) (n := 32) (m := 128) (w := 16) (View.whole cc1_scratch0) (block L W) off h shapeCasts_S1x16_S16 x
    have HP := fun off h x => (congrFun (shapeCast_self _ shapeCasts_S16_S16) x).symm.trans (cast_probs (F := F) L p off h shapeCasts_S16_S16 x)
    have HS := fun (v : S16.Idx → F .f32) => shapeCast_self v shapeCasts_S16_S16
    delta body1.sl.cst_359 body1.sl.cst_495 body1.sl.r body1.sl.r_1 body1.sl.r_10 body1.sl.r_11 body1.sl.r_12 body1.sl.r_13 body1.sl.r_2 body1.sl.r_3 body1.sl.r_4 body1.sl.r_5 body1.sl.r_6 body1.sl.r_7 body1.sl.r_8 body1.sl.r_9 body1.sl.v1000 body1.sl.v1001 body1.sl.v1004 body1.sl.v1005 body1.sl.v1008 body1.sl.v1009 body1.sl.v1012 body1.sl.v1013 body1.sl.v1016 body1.sl.v1017 body1.sl.v1020 body1.sl.v1021 body1.sl.v1024 body1.sl.v1025 body1.sl.v1028 body1.sl.v1029 body1.sl.v1111 body1.sl.v1114 body1.sl.v1115 body1.sl.v1118 body1.sl.v1119 body1.sl.v1122 body1.sl.v1123 body1.sl.v1126 body1.sl.v1127 body1.sl.v1130 body1.sl.v1131 body1.sl.v1134 body1.sl.v1135 body1.sl.v1138 body1.sl.v1139 body1.sl.v1142 body1.sl.v1143 body1.sl.v1146 body1.sl.v1147 body1.sl.v1150 body1.sl.v1151 body1.sl.v1154 body1.sl.v1155 body1.sl.v1158 body1.sl.v1159 body1.sl.v1162 body1.sl.v1163 body1.sl.v1166 body1.sl.v1167 body1.sl.v1170 body1.sl.v1171 body1.sl.v1174 body1.sl.v1175 body1.sl.v1178 body1.sl.v1179 body1.sl.v1182 body1.sl.v1183 body1.sl.v1186 body1.sl.v1187 body1.sl.v1190 body1.sl.v1232 body1.sl.v1233 body1.sl.v1236 body1.sl.v1237 body1.sl.v1240 body1.sl.v1241 body1.sl.v1244 body1.sl.v1245 body1.sl.v1248 body1.sl.v1249 body1.sl.v1252 body1.sl.v1253 body1.sl.v1256 body1.sl.v1257 body1.sl.v1260 body1.sl.v1261 body1.sl.v1264 body1.sl.v1265 body1.sl.v1268 body1.sl.v1269 body1.sl.v1272 body1.sl.v1273 body1.sl.v1276 body1.sl.v1277 body1.sl.v1280 body1.sl.v1281 body1.sl.v1284 body1.sl.v1285 body1.sl.v1288 body1.sl.v1289 body1.sl.v1292 body1.sl.v1293 body1.sl.v1296 body1.sl.v1297 body1.sl.v1300 body1.sl.v1301 body1.sl.v1304 body1.sl.v1305 body1.sl.v1308 body1.sl.v1309 body1.sl.v1312 body1.sl.v1313 body1.sl.v1316 body1.sl.v1317 body1.sl.v1320 body1.sl.v1321 body1.sl.v1324 body1.sl.v1325 body1.sl.v1328 body1.sl.v1329 body1.sl.v1332 body1.sl.v1333 body1.sl.v1336 body1.sl.v1337 body1.sl.v1340 body1.sl.v1341 body1.sl.v1344 body1.sl.v1345 body1.sl.v1348 body1.sl.v1349 body1.sl.v1391 body1.sl.v1394 body1.sl.v1395 body1.sl.v1398 body1.sl.v1399 body1.sl.v1402 body1.sl.v1403 body1.sl.v1406 body1.sl.v1407 body1.sl.v1410 body1.sl.v1411 body1.sl.v1414 body1.sl.v1415 body1.sl.v1418 body1.sl.v1419 body1.sl.v1422 body1.sl.v1423 body1.sl.v1426 body1.sl.v1427 body1.sl.v1430 body1.sl.v1431 body1.sl.v1434 body1.sl.v1435 body1.sl.v1438 body1.sl.v1439 body1.sl.v1442 body1.sl.v1443 body1.sl.v1446 body1.sl.v1447 body1.sl.v1450 body1.sl.v1451 body1.sl.v1454 body1.sl.v1455 body1.sl.v1458 body1.sl.v1459 body1.sl.v1462 body1.sl.v1463 body1.sl.v1466 body1.sl.v1467 body1.sl.v1470 body1.sl.v1512 body1.sl.v1513 body1.sl.v1516 body1.sl.v1517 body1.sl.v1520 body1.sl.v1521 body1.sl.v1524 body1.sl.v1525 body1.sl.v1528 body1.sl.v1529 body1.sl.v1532 body1.sl.v1533 body1.sl.v1536 body1.sl.v1537 body1.sl.v1540 body1.sl.v1541 body1.sl.v1544 body1.sl.v1545 body1.sl.v1548 body1.sl.v1549 body1.sl.v1552 body1.sl.v1553 body1.sl.v1556 body1.sl.v1557 body1.sl.v1560 body1.sl.v1561 body1.sl.v1564 body1.sl.v1565 body1.sl.v1568 body1.sl.v1569 body1.sl.v1572 body1.sl.v1573 body1.sl.v1576 body1.sl.v1577 body1.sl.v1580 body1.sl.v1581 body1.sl.v1584 body1.sl.v1585 body1.sl.v1588 body1.sl.v1589 body1.sl.v1592 body1.sl.v1593 body1.sl.v1596 body1.sl.v1597 body1.sl.v1600 body1.sl.v1601 body1.sl.v1604 body1.sl.v1605 body1.sl.v1608 body1.sl.v1609 body1.sl.v1612 body1.sl.v1613 body1.sl.v1616 body1.sl.v1617 body1.sl.v1620 body1.sl.v1621 body1.sl.v1624 body1.sl.v1625 body1.sl.v1628 body1.sl.v1629 body1.sl.v551 body1.sl.v554 body1.sl.v555 body1.sl.v558 body1.sl.v559 body1.sl.v562 body1.sl.v563 body1.sl.v566 body1.sl.v567 body1.sl.v570 body1.sl.v571 body1.sl.v574 body1.sl.v575 body1.sl.v578 body1.sl.v579 body1.sl.v582 body1.sl.v583 body1.sl.v586 body1.sl.v587 body1.sl.v590 body1.sl.v591 body1.sl.v594 body1.sl.v595 body1.sl.v598 body1.sl.v599 body1.sl.v602 body1.sl.v603 body1.sl.v606 body1.sl.v607 body1.sl.v610 body1.sl.v611 body1.sl.v614 body1.sl.v615 body1.sl.v618 body1.sl.v619 body1.sl.v622 body1.sl.v623 body1.sl.v626 body1.sl.v627 body1.sl.v630 body1.sl.v672 body1.sl.v673 body1.sl.v676 body1.sl.v677 body1.sl.v680 body1.sl.v681 body1.sl.v684 body1.sl.v685 body1.sl.v688 body1.sl.v689 body1.sl.v692 body1.sl.v693 body1.sl.v696 body1.sl.v697 body1.sl.v700 body1.sl.v701 body1.sl.v704 body1.sl.v705 body1.sl.v708 body1.sl.v709 body1.sl.v712 body1.sl.v713 body1.sl.v716 body1.sl.v717 body1.sl.v720 body1.sl.v721 body1.sl.v724 body1.sl.v725 body1.sl.v728 body1.sl.v729 body1.sl.v732 body1.sl.v733 body1.sl.v736 body1.sl.v737 body1.sl.v740 body1.sl.v741 body1.sl.v744 body1.sl.v745 body1.sl.v748 body1.sl.v749 body1.sl.v831 body1.sl.v834 body1.sl.v835 body1.sl.v838 body1.sl.v839 body1.sl.v842 body1.sl.v843 body1.sl.v846 body1.sl.v847 body1.sl.v850 body1.sl.v851 body1.sl.v854 body1.sl.v855 body1.sl.v858 body1.sl.v859 body1.sl.v862 body1.sl.v863 body1.sl.v866 body1.sl.v867 body1.sl.v870 body1.sl.v871 body1.sl.v874 body1.sl.v875 body1.sl.v878 body1.sl.v879 body1.sl.v882 body1.sl.v883 body1.sl.v886 body1.sl.v887 body1.sl.v890 body1.sl.v891 body1.sl.v894 body1.sl.v895 body1.sl.v898 body1.sl.v899 body1.sl.v902 body1.sl.v903 body1.sl.v906 body1.sl.v907 body1.sl.v910 body1.sl.v952 body1.sl.v953 body1.sl.v956 body1.sl.v957 body1.sl.v960 body1.sl.v961 body1.sl.v964 body1.sl.v965 body1.sl.v968 body1.sl.v969 body1.sl.v972 body1.sl.v973 body1.sl.v976 body1.sl.v977 body1.sl.v980 body1.sl.v981 body1.sl.v984 body1.sl.v985 body1.sl.v988 body1.sl.v989 body1.sl.v992 body1.sl.v993 body1.sl.v996 body1.sl.v997
    refine fun y => store_step f7 112 _ _ _ (res L W p) (fun x => ?_)
      (store_step f7 96 _ _ _ (res L W p) (fun x => ?_) (store_step f7 80 _ _ _ (res L W p) (fun x => ?_)
      (store_step f7 64 _ _ _ (res L W p) (fun x => ?_) (store_step f7 48 _ _ _ (res L W p) (fun x => ?_)
      (store_step f7 32 _ _ _ (res L W p) (fun x => ?_) (store_step f7 16 _ _ _ (res L W p) (fun x => ?_)
      (store_step f7 0 _ _ _ (res L W p) (fun x => ?_) (fun y hy => absurd hy (Nat.not_lt_zero _))))))))) y (y 0).isLt
    all_goals
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, HS]
      simp only [addi, addf, mulf, sitofp, broadcast, IntOp.addi]
      simp only [H, HP, Matrix.cons_val_zero, Matrix.cons_val_one, Matrix.cons_val_fin_one, View.read_whole, BitVec.zero_add, Nat.zero_add]
      simp only [res, mixOf, wsum, BitVec.zero_add, Nat.zero_add, Scalar.sitofp]
  icases H7 with ⟨%g7, %hg7, H7⟩
  iapply (Transfers.wp_dmaLocal EC 𝒱₀ (thr1 L d) none (src := b7) (dst := outV L) (via := .same) (Sd := (outV L).view.set) (fd := f4) (q := fullShare)
    none ((outV L).view.amount (.dma cc1_scoped1.sem)) rfl (View.amount_pos _ _ (show 0 < S128.numel by decide)) (Finset.Subset.refl _)) $$ [H7 H4 Hv1]
  · isplitl [H7]
    · iapply (Entails.of_eq (congrArg (fun I => (b7.view.loc (thr1 L d) ↦[I]{fullShare} _ : sProp 𝕄)) (View.set_whole cc1_scratch2).symm)) $$ H7
    isplitl [H4]; · iexact H4
    iexact Hv1
  iintro HF
  icases Ho with ⟨%W1, %hW, Ho⟩
  iapply (Transfers.wp_waitLocalO EC 𝒱₀ (thr1 L d) none none rfl) $$ [HF Ho]
  · isplitl [HF]; · iexact HF
    isplitl [Ho]; · iexact Ho
    iapply (MayWaits.elim (SemLoc.dma cc1_scoped1.sem)); iexact Hm
  iintro ⟨⟨H4, H7⟩, Hv1, Ho⟩
  sl_step
  isplitl [Hs]; · iexact Hs
  isplitl [H3]; · iexact H3
  isplitl [H4]
  · iapply (Entails.of_eq (pointsTo_congr (out_write (F := F) L W p f4 g7 hg7))) $$ H4
  isplitl [H5]; · iexists _; iexact H5
  isplitl [H6]; · iexists _; iexact H6
  isplitl [H7]
  · iexists _
    iapply (Entails.of_eq (congrArg (fun I => (b7.view.loc (thr1 L d) ↦[I]{fullShare} _ : sProp 𝕄)) (View.set_whole cc1_scratch2))) $$ H7
  isplitl [Hv3]; · iexact Hv3
  isplitl [Hv]; · iexact Hv
  isplitl [Hv1]; · iexact Hv1
  iexists _
  isplitr
  rotate_left
  · iexact Ho
  ipureintro
  exact ret_none hW _

end Cert.Proof
-- ==== Proof.Tile.lean ====
/-
  The two calls' tasks on a tile, as the launch hands them over: the operands as the TensorCore names them, the
  tile's own buffers and semaphores out of everything that is its own.
-/
module

public import proofs.«01_k».proof.Proof.Body1

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay ownSems0 ownBufs ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

abbrev p0Loc (d : Dev nD) : Loc nD τ sig := (SparseCore.T d).loc main_arg0
abbrev mkLoc (d : Dev nD) : Loc nD τ sig := (SparseCore.T d).loc main_arg1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

section Own
variable (d : Dev nD) (c : Fin τ.nSC) (j : Fin τ.nSub)

omit [FloatOps F] in
theorem cell_own {s : SemLoc sig} (h : s.isScoped .scVector = true) : ((V d c j, s) : GSem nD τ sig) ∈ ownCells (V d c j) :=
  mem_ownCells.mpr ⟨rfl, h⟩

omit [FloatOps F] in
theorem own_three (s t u : SemLoc sig) (hs : s.isScoped .scVector = true) (ht : t.isScoped .scVector = true) (hu : u.isScoped .scVector = true)
    (hts : t ≠ s) (hus : u ≠ s) (hut : u ≠ t) :
    (ownSems0 (V d c j) : sProp 𝕄)
      = iprop(semVal (V d c j, s) 0 ∗ semVal (V d c j, t) 0 ∗ semVal (V d c j, u) 0
          ∗ bigSep ((((ownCells (V d c j)).erase (V d c j, s)).erase (V d c j, t)).erase (V d c j, u)) fun g => semVal g 0) := by
  unfold SparseCore.Cfg.ownSems0
  rw [SparseCore.bigSep_erase' (cell_own d c j hs),
    SparseCore.bigSep_erase' (Finset.mem_erase.mpr ⟨fun e => hts (Prod.mk.inj e).2, cell_own d c j ht⟩),
    SparseCore.bigSep_erase' (Finset.mem_erase.mpr ⟨fun e => hut (Prod.mk.inj e).2, Finset.mem_erase.mpr ⟨fun e => hus (Prod.mk.inj e).2, cell_own d c j hu⟩⟩)]

abbrev dref (b : Ref sig .scVector) : DevRef τ sig := (Proc.scVector c j).devRef b

omit [FloatOps F] in
theorem ref_own {b : Ref sig .scVector} (h : (dref c j b).owner = .proc (.scVector c j)) : dref c j b ∈ ownRefs (τ := τ) (sig := sig) (.scVector c j) :=
  mem_ownRefs_of_owner (p := Proc.scVector c j) (b := dref c j b) h

omit [FloatOps F] in
theorem ref_ne {a b : Ref sig .scVector} (h : a ≠ b) : dref c j a ≠ dref c j b := fun e => h (Proc.devRef_injective _ e)

/-- Buffer `b` of the tile's, at some contents. -/
def some_at (b : Ref sig .scVector) : sProp 𝕄 := iprop(∃ f : Buf (Elt F) ((V d c j).loc b), (V d c j).loc b ↦{fullShare} f)

abbrev left0 : Finset (DevRef τ sig) :=
  ((((ownRefs (τ := τ) (sig := sig) (.scVector c j)).erase (dref c j cc0_scratch0)).erase (dref c j cc0_scratch1)).erase (dref c j cc0_scratch2)).erase
    (dref c j cc0_scratch3)
abbrev left1 : Finset (DevRef τ sig) :=
  (((ownRefs (τ := τ) (sig := sig) (.scVector c j)).erase (dref c j cc1_scratch0)).erase (dref c j cc1_scratch1)).erase (dref c j cc1_scratch2)

omit [FloatOps F] in
theorem bufs0 : (ownBufs (V d c j) : sProp 𝕄)
    = iprop(some_at d c j cc0_scratch0 ∗ some_at d c j cc0_scratch1 ∗ some_at d c j cc0_scratch2 ∗ some_at d c j cc0_scratch3
        ∗ bigSep (left0 c j) fun b => iprop(∃ f, ((d, b) : Loc nD τ sig) ↦{fullShare} f)) := by
  unfold SparseCore.Cfg.ownBufs
  refine (SparseCore.bigSep_erase' (ref_own c j (b := cc0_scratch0) rfl)).trans ?_
  rw [SparseCore.bigSep_erase' (Finset.mem_erase.mpr ⟨ref_ne c j (a := cc0_scratch1) (b := cc0_scratch0) (by decide), ref_own c j rfl⟩),
    SparseCore.bigSep_erase' (Finset.mem_erase.mpr ⟨ref_ne c j (a := cc0_scratch2) (b := cc0_scratch1) (by decide),
      Finset.mem_erase.mpr ⟨ref_ne c j (a := cc0_scratch2) (b := cc0_scratch0) (by decide), ref_own c j rfl⟩⟩),
    SparseCore.bigSep_erase' (Finset.mem_erase.mpr ⟨ref_ne c j (a := cc0_scratch3) (b := cc0_scratch2) (by decide),
      Finset.mem_erase.mpr ⟨ref_ne c j (a := cc0_scratch3) (b := cc0_scratch1) (by decide),
        Finset.mem_erase.mpr ⟨ref_ne c j (a := cc0_scratch3) (b := cc0_scratch0) (by decide), ref_own c j rfl⟩⟩⟩)]
  rfl

omit [FloatOps F] in
theorem bufs1 : (ownBufs (V d c j) : sProp 𝕄)
    = iprop(some_at d c j cc1_scratch0 ∗ some_at d c j cc1_scratch1 ∗ some_at d c j cc1_scratch2
        ∗ bigSep (left1 c j) fun b => iprop(∃ f, ((d, b) : Loc nD τ sig) ↦{fullShare} f)) := by
  unfold SparseCore.Cfg.ownBufs
  refine (SparseCore.bigSep_erase' (ref_own c j (b := cc1_scratch0) rfl)).trans ?_
  rw [SparseCore.bigSep_erase' (Finset.mem_erase.mpr ⟨ref_ne c j (a := cc1_scratch1) (b := cc1_scratch0) (by decide), ref_own c j rfl⟩),
    SparseCore.bigSep_erase' (Finset.mem_erase.mpr ⟨ref_ne c j (a := cc1_scratch2) (b := cc1_scratch1) (by decide),
      Finset.mem_erase.mpr ⟨ref_ne c j (a := cc1_scratch2) (b := cc1_scratch0) (by decide), ref_own c j rfl⟩⟩)]
  rfl

end Own

/-! ## The first call's task -/

section Tile0
variable (d : Dev nD) (L : grid0.Coords) (q₁ q₂ : PosShare TreeShare) (W : Buf (Elt F) (v2Loc d))

/-- A tile of the first call has two read shares of the packed mask and its row of the histograms. -/
def task0 (f3 : Buf (Elt F) (v3Loc d)) : sProp 𝕄 :=
  iprop((v2Loc d ↦{q₁} W) ∗ (v2Loc d ↦{q₂} W) ∗ (v3Loc d ↦[(rowV L).view.set]{fullShare} f3))

omit [FloatOps F] in
instance task0_storable (f3 : Buf (Elt F) (v3Loc d)) : BI.Storable (upEmb : UEmb _ 𝕄) (task0 d L q₁ q₂ W f3) := by
  unfold task0; infer_instance

theorem tile0 (hF : (K (F := F)).Facts) (hb : ∀ R, (bin (at2 (n := 16384) (m := 1024) W) R).toNat < 4608) (f3 : Buf (Elt F) (v3Loc d))
    (O : CellTallies nD τ sig (HIx 2)) (Wd : Finset (SemLoc sig × HIx 2)) (hO : ∀ g, O g none = 0) :
    iprop(levAts (K (F := F)).L (K (F := F)).lev ∗ emp ∗ task0 d L q₁ q₂ W f3 ∗ scopedBufs (thr L d) ∗ scopedSems0 (thr L d) ∗ owes (thr L d) O Wd : sProp 𝕄)
      ⊢ wp frame (wpE (defs₀ (F := F)) 𝒱₀ (thr L d) none) Set.univ
          (cc0__row_hist_body L a2 (Memref.isWhole_whole _) a3 (Memref.isWhole_whole _) a4 (Memref.isWhole_whole _) a5 (Memref.isWhole_whole _)
            a6 (Memref.isWhole_whole _) a7 (Memref.isWhole_whole _) cc0_scratch4 cc0_scratch5 cc0_scoped0)
          fun _ => iprop(task0 d L q₁ q₂ W (hist W) ∗ scopedBufs (thr L d) ∗ scopedSems0 (thr L d)
            ∗ ∃ W', ⌜∀ p ∈ W', p ∈ Wd ∨ p.2 = none⌝ ∗ owes (thr L d) O W') := by
  rw [(K (F := F)).scopedBufs_V hF d (cV L) (jV L), SparseCore.Cfg.scopedSems0_V (Val := Elt F) d (cV L) (jV L), bufs0,
    own_three d (cV L) (jV L) (.dma cc0_scratch4.sem) (.dma cc0_scratch5.sem) (.dma cc0_scoped0.sem) (by decide) (by decide) (by decide)
      (by decide) (by decide) (by decide)]
  unfold task0 some_at
  iintro ⟨#Hlv, -, ⟨Ha, Hb, Hr⟩, ⟨⟨%f4, H4⟩, ⟨%f5, H5⟩, ⟨%f6, H6⟩, ⟨%f7, H7⟩, Hbufs⟩, ⟨Hs1, Hs2, Hs3, Hsems⟩, HO⟩
  ihave Hmw := ((K (F := F)).mayWaits_none (thr := thr L d) hO) $$ Hlv
  ihave Hw := (body0 d L q₁ q₂ W hb O Wd f3 f4 f5 f6 f7) $$ [Ha Hb Hr H4 H5 H6 H7 Hs1 Hs2 Hs3 Hmw HO]
  · isplitl [Ha]; · iexact Ha
    isplitl [Hb]; · iexact Hb
    isplitl [Hr]; · iexact Hr
    isplitl [H4]; · iexact H4
    isplitl [H5]; · iexact H5
    isplitl [H6]; · iexact H6
    isplitl [H7]; · iexact H7
    isplitl [Hs1]; · iexact Hs1
    isplitl [Hs2]; · iexact Hs2
    isplitl [Hs3]; · iexact Hs3
    isplitl [Hmw]; · iexact Hmw
    iexact HO
  iapply (wp_wand frame (wpE (defs₀ (F := F)) 𝒱₀ (thr L d) none) Set.univ) $$ Hw
  iintro %_ ⟨Ha, Hb, Hr, H4, H5, H6, H7, Hs1, Hs2, Hs3, HO⟩
  isplitl [Ha Hb Hr]
  · isplitl [Ha]; · iexact Ha
    isplitl [Hb]; · iexact Hb
    iexact Hr
  isplitl [H4 H5 H6 H7 Hbufs]
  · isplitl [H4]; · iexact H4
    isplitl [H5]; · iexact H5
    isplitl [H6]; · iexact H6
    isplitl [H7]; · iexact H7
    iexact Hbufs
  isplitl [Hs1 Hs2 Hs3 Hsems]
  · isplitl [Hs1]; · iexact Hs1
    isplitl [Hs2]; · iexact Hs2
    isplitl [Hs3]; · iexact Hs3
    iexact Hsems
  iexact HO

end Tile0

/-! ## The second call's task -/

section Tile1
variable (d : Dev nD) (L : grid1.Coords) (q q' : PosShare TreeShare) (W : Buf (Elt F) (v3Loc d)) (p : Buf (Elt F) (p0Loc d))

/-- A tile of the second call has a read share of the histograms, one of the old probabilities, and its block of the results. -/
def task1 (f4 : Buf (Elt F) (v4Loc d)) : sProp 𝕄 :=
  iprop((v3Loc d ↦{q} W) ∗ (p0Loc d ↦{q'} p) ∗ (v4Loc d ↦[(outV L).view.set]{fullShare} f4))

omit [FloatOps F] in
instance task1_storable (f4 : Buf (Elt F) (v4Loc d)) : BI.Storable (upEmb : UEmb _ 𝕄) (task1 d L q q' W p f4) := by
  unfold task1; infer_instance

/-- The histograms' elements the tile reads. -/
abbrev srcAll : Finset S32x4608.Idx := Finset.univ.biUnion fun t : Fin 32 => srcSet L t.val

omit [FloatOps F] in
theorem src_split : (v3Loc d ↦{q} W : sProp 𝕄)
    = iprop((bigSep Finset.univ fun t : Fin 32 => (a3.view.loc (thr1 L d) ↦[srcSet L t.val]{q} W)) ∗ (v3Loc d ↦[Finset.univ \ srcAll L]{q} W)) := by
  have h : (v3Loc d ↦[srcAll L]{q} W : sProp 𝕄) = bigSep Finset.univ fun t : Fin 32 => (a3.view.loc (thr1 L d) ↦[srcSet L t.val]{q} W) :=
    pointsTo_biUnion (ℓ := v3Loc d) (q := q) (f := W) (Finset.univ : Finset (Fin 32)) (fun t => srcSet L t.val)
      (fun t _ t' _ h => srcSet_disj L fun e => h (Fin.ext e))
  have hs : (v3Loc d ↦{q} W : sProp 𝕄) = iprop((v3Loc d ↦[srcAll L]{q} W) ∗ (v3Loc d ↦[Finset.univ \ srcAll L]{q} W)) := by
    have hs0 : (v3Loc d ↦{q} W : sProp 𝕄) ⊣⊢ iprop((v3Loc d ↦[srcAll L]{q} W) ∗ (v3Loc d ↦[Finset.univ \ srcAll L]{q} W)) :=
      pointsTo_split_subset (ℓ := v3Loc d) (q := q) (f := W) (Finset.subset_univ (srcAll L))
    exact Idealize.SL.BI.Entails.antisymm hs0.1 hs0.2
  rw [hs, h]

theorem tile1 (hF : (K (F := F)).Facts) (f4 : Buf (Elt F) (v4Loc d))
    (O : CellTallies nD τ sig (HIx 2)) (Wd : Finset (SemLoc sig × HIx 2)) (hO : ∀ g, O g none = 0) :
    iprop(levAts (K (F := F)).L (K (F := F)).lev ∗ emp ∗ task1 d L q q' W p f4 ∗ scopedBufs (thr1 L d) ∗ scopedSems0 (thr1 L d) ∗ owes (thr1 L d) O Wd : sProp 𝕄)
      ⊢ wp frame (wpE (defs₀ (F := F)) 𝒱₀ (thr1 L d) none) Set.univ
          (cc1__combine_body L a3 (Memref.isWhole_whole _) b3 (Memref.isWhole_whole _) b4 (Memref.isWhole_whole _) b5 (Memref.isWhole_whole _)
            b6 (Memref.isWhole_whole _) b7 (Memref.isWhole_whole _) cc1_scratch3 cc1_scoped0 cc1_scoped1)
          fun _ => iprop(task1 d L q q' W p (out W p) ∗ scopedBufs (thr1 L d) ∗ scopedSems0 (thr1 L d)
            ∗ ∃ W', ⌜∀ p ∈ W', p ∈ Wd ∨ p.2 = none⌝ ∗ owes (thr1 L d) O W') := by
  rw [(K (F := F)).scopedBufs_V hF d (cV1 L) (jV1 L), SparseCore.Cfg.scopedSems0_V (Val := Elt F) d (cV1 L) (jV1 L), bufs1,
    own_three d (cV1 L) (jV1 L) (.dma cc1_scratch3.sem) (.dma cc1_scoped0.sem) (.dma cc1_scoped1.sem) (by decide) (by decide) (by decide)
      (by decide) (by decide) (by decide)]
  unfold task1 some_at
  rw [src_split d L q W]
  iintro ⟨#Hlv, -, ⟨⟨Hsrc, Hoff⟩, Hp, Ho⟩, ⟨⟨%f5, H5⟩, ⟨%f6, H6⟩, ⟨%f7, H7⟩, Hbufs⟩, ⟨Hs1, Hs2, Hs3, Hsems⟩, HO⟩
  ihave Hmw := ((K (F := F)).mayWaits_none (thr := thr1 L d) hO) $$ Hlv
  imod (batch_alloc' EC (c := thr1 L d) (sm := .dma cc1_scratch3.sem) (none : HIx 2) NB (Dlv d L q W) (E := Set.univ)) $$ Hs1 with HB
  ihave H5' := (Entails.of_eq (rows_join d L f5).symm) $$ H5
  ihave Hw := (body1 d L q W f5 q' p f6 f7 f4 O Wd) $$ [Hsrc H5' HB Hp Ho H6 H7 Hs2 Hs3 Hmw HO]
  · isplitl [Hsrc H5' HB]
    · unfold Iss
      isplitl [Hsrc H5']
      · rw [pending_zero, bigSep_sep']
        isplitl [Hsrc]; · iexact Hsrc
        iexact H5'
      · iexact HB
    isplitl [Hp]; · iexact Hp
    isplitl [Ho]; · iexact Ho
    isplitl [H6]; · iexact H6
    isplitl [H7]; · iexact H7
    isplitl [Hs2]; · iexact Hs2
    isplitl [Hs3]; · iexact Hs3
    isplitl [Hmw]; · iexact Hmw
    iexact HO
  iapply (wp_wand frame (wpE (defs₀ (F := F)) 𝒱₀ (thr1 L d) none) Set.univ) $$ Hw
  iintro %_ ⟨Hsrc, Hp, Ho, H5, H6, H7, Hs1, Hs2, Hs3, HO⟩
  isplitl [Hsrc Hoff Hp Ho]
  · isplitl [Hsrc Hoff]
    · isplitl [Hsrc]; · iexact Hsrc
      iexact Hoff
    isplitl [Hp]; · iexact Hp
    iexact Ho
  isplitl [H5 H6 H7 Hbufs]
  · isplitl [H5]; · iexact H5
    isplitl [H6]; · iexact H6
    isplitl [H7]; · iexact H7
    iexact Hbufs
  isplitl [Hs1 Hs2 Hs3 Hsems]
  · isplitl [Hs1]; · iexact Hs1
    isplitl [Hs2]; · iexact Hs2
    isplitl [Hs3]; · iexact Hs3
    iexact Hsems
  iexact HO

end Tile1

end Cert.Proof
-- ==== Proof.Pack.lean ====
module

public import proofs.«01_k».proof.Proof.Body1
public import Idealize.ShloMosaic.Lib.BitcastConvert

@[expose] public section

set_option maxRecDepth 16384

noncomputable section

namespace Cert.Proof

open Cert.KernelIdeal Cert.KernelIdeal.Gen
open Idealize.ShloMosaic

theorem mask_toNat (x : BitVec 32) : (x &&& 16711935#32).toNat = x.toNat % 256 + 65536 * (x.toNat / 65536 % 256) := by
  have hs : x.toNat &&& (255 <<< 16) = (x.toNat / 65536 % 256) <<< 16 := by
    rw [← Nat.and_two_pow_sub_one_eq_mod _ 8, ← Nat.shiftRight_eq_div_pow x.toNat 16]
    refine Nat.eq_of_testBit_eq fun i => ?_
    simp only [Nat.testBit_and, Nat.testBit_shiftLeft, Nat.testBit_shiftRight]
    by_cases hi : 16 ≤ i
    · simp [hi, show 16 + (i - 16) = i by omega]
    · simp [hi]
  have hm : (16711935#32).toNat = (255 <<< 16) ||| 255 := by decide
  rw [BitVec.toNat_and, hm, Nat.and_or_distrib_left, hs, Nat.and_two_pow_sub_one_eq_mod x.toNat 8,
    ← Nat.shiftLeft_add_eq_or_of_lt (show x.toNat % 2 ^ 8 < 2 ^ 16 by omega), Nat.shiftLeft_eq]
  omega

theorem low_toNat (x : BitVec 32) : (x &&& 65535#32).toNat = x.toNat % 65536 := by
  rw [BitVec.toNat_and]
  exact Nat.and_two_pow_sub_one_eq_mod x.toNat 16

theorem sshr_toNat (x : BitVec 32) (n : ℕ) (h : x.toNat < 2 ^ 31) : (x.sshiftRight n).toNat = x.toNat / 2 ^ n := by
  rw [BitVec.sshiftRight_eq_of_msb_false (by rw [BitVec.msb_eq_decide]; simp; omega), BitVec.toNat_ushiftRight, Nat.shiftRight_eq_div_pow]

theorem red_toNat (x : BitVec 32) (a b c d : ℕ) (hx : x.toNat = a + 256 * b + 65536 * c + 16777216 * d) (ha : a < 128) (hb : b < 128) (hc : c < 128) (hd : d < 128) :
    (red x).toNat = (a + b) + 65536 * (c + d) := by
  have h1 : x.toNat % 256 = a := by omega
  have h2 : x.toNat / 65536 % 256 = c := by omega
  have h3 : x.toNat / 2 ^ 8 % 256 = b := by omega
  have h4 : x.toNat / 2 ^ 8 / 65536 % 256 = d := by omega
  unfold red
  rw [BitVec.toNat_add, mask_toNat, mask_toNat, sshr_toNat x 8 (by omega), h1, h2, h3, h4]
  omega

theorem wsum_toNat (f : ℕ → BitVec 32) (g : ℕ → ℕ) (n : ℕ) (h : ∀ j, j < n → (f j).toNat = g j) (hb : ∑ j ∈ Finset.range n, g j < 4294967296) :
    (wsum f n).toNat = ∑ j ∈ Finset.range n, g j := by
  induction n with
  | zero => rfl
  | succ n ih =>
    rw [Finset.sum_range_succ] at hb ⊢
    rw [wsum, BitVec.toNat_add, ih (fun j hj => h j (by omega)) (by omega), h n (by omega)]
    exact Nat.mod_eq_of_lt hb

/-- The mask's bit in row `r`, column `k`, as a number. -/
def mbit (M : S16384x4096.Idx → BitVec 1) (r k : ℕ) : ℕ :=
  if h : r < 16384 ∧ k < 4096 then (M (ix2 (n := 16384) (m := 4096) r k h)).toNat else 0

theorem mbit_le (M : S16384x4096.Idx → BitVec 1) (r k : ℕ) : mbit M r k ≤ 1 := by
  unfold mbit
  split
  · have := (M (ix2 (n := 16384) (m := 4096) r k ‹_›)).isLt; omega
  · omega

/-- A row's length. -/
def len (M : S16384x4096.Idx → BitVec 1) (r : ℕ) : ℕ := ∑ k ∈ Finset.range 4096, mbit M r k

theorem sum_le_of (f : ℕ → ℕ) (b n : ℕ) (h : ∀ k, f k ≤ b) : ∑ k ∈ Finset.range n, f k ≤ n * b := by
  induction n with
  | zero => simp
  | succ n ih => rw [Finset.sum_range_succ, Nat.succ_mul]; have := h n; omega

theorem len_le (M : S16384x4096.Idx → BitVec 1) (r : ℕ) : len M r ≤ 4096 := by
  have h := sum_le_of (fun k => mbit M r k) 1 4096 (mbit_le M r)
  show ∑ k ∈ Finset.range 4096, mbit M r k ≤ 4096
  omega

/-- The mask as the call takes it: four bytes to a word. -/
def pack (M : S16384x4096.Idx → BitVec 1) : S16384x1024.Idx → BitVec 32 :=
  Host.bitcastConvertWiden S16384x1024 32 (shapeCast S16384x1024x4 (extui 8 M natLt_1_8) shapeCasts_S16384x4096_S16384x1024x4) splits_S16384x1024_w32_S16384x1024x4_w8

def ix3 (r k j : ℕ) (hr : r < 16384) (hk : k < 1024) (hj : j < 4) : S16384x1024x4.Idx :=
  Fin.cons ⟨r, hr⟩ (Fin.cons ⟨k, hk⟩ (Fin.cons ⟨j, hj⟩ finZeroElim))

theorem pack_bit (M : S16384x4096.Idx → BitVec 1) (r k : ℕ) (hr : r < 16384) (hk : k < 1024) (q : ℕ) (hq : q < 32) :
    (pack M (ix2 (n := 16384) (m := 1024) r k ⟨hr, hk⟩)).getLsbD q
      = ((M (ix2 (n := 16384) (m := 4096) r (4 * k + q / 8) ⟨hr, by omega⟩)).setWidth 8).getLsbD (q % 8) := by
  unfold pack
  rw [Host.bitcastConvertWiden_getLsbD _ _ _ _ _ q hq]
  refine congrArg (fun b : BitVec 8 => b.getLsbD (q % 8)) ?_
  refine (shapeCast_apply (extui 8 M natLt_1_8) shapeCasts_S16384x4096_S16384x1024x4 _ (ix2 (n := 16384) (m := 4096) r (4 * k + q / 8) ⟨hr, by omega⟩) ?_).trans ?_
  · rw [show splits_S16384x1024_w32_S16384x1024x4_w8.snoc (ix2 (n := 16384) (m := 1024) r k ⟨hr, hk⟩) ⟨q / 8, splits_S16384x1024_w32_S16384x1024x4_w8.div_lt hq⟩
      = ix3 r k (q / 8) hr hk (by omega) from by funext a; fin_cases a <;> rfl]
    rw [Shape.rowMajor_val_two, Shape.rowMajor_val_three]
    show r * 4096 + (4 * k + q / 8) = (r * 1024 + k) * 4 + q / 8
    omega
  · rfl

theorem bytes_bit : ∀ a b c d : BitVec 1, ∀ q : Fin 32,
    (BitVec.ofNat 32 (a.toNat + 256 * b.toNat + 65536 * c.toNat + 16777216 * d.toNat)).getLsbD q.val
      = ((if q.val < 8 then a else if q.val < 16 then b else if q.val < 24 then c else d).setWidth 8).getLsbD (q.val % 8) := by
  decide

theorem pack_toNat (M : S16384x4096.Idx → BitVec 1) (r k : ℕ) :
    k < 1024 → (at2 (n := 16384) (m := 1024) (pack M) r k).toNat
      = mbit M r (4 * k) + 256 * mbit M r (4 * k + 1) + 65536 * mbit M r (4 * k + 2) + 16777216 * mbit M r (4 * k + 3) := by
  intro hk
  by_cases hr : r < 16384
  · have hb : ∀ (j : ℕ) (hj : j < 4), mbit M r (4 * k + j) = (M (ix2 (n := 16384) (m := 4096) r (4 * k + j) ⟨hr, by omega⟩)).toNat := fun j hj => by
      rw [mbit, dif_pos ⟨hr, by omega⟩]
    rw [at2, dif_pos ⟨hr, hk⟩]
    have e : pack M (ix2 (n := 16384) (m := 1024) r k ⟨hr, hk⟩)
        = BitVec.ofNat 32 (mbit M r (4 * k) + 256 * mbit M r (4 * k + 1) + 65536 * mbit M r (4 * k + 2) + 16777216 * mbit M r (4 * k + 3)) := by
      refine BitVec.eq_of_getLsbD_eq fun q hq => ?_
      rw [pack_bit M r k hr hk q hq, show mbit M r (4 * k) = _ from hb 0 (by omega), hb 1 (by omega), hb 2 (by omega), hb 3 (by omega)]
      refine Eq.trans ?_ (bytes_bit _ _ _ _ ⟨q, hq⟩).symm
      show _ = ((if q < 8 then _ else if q < 16 then _ else if q < 24 then _ else _ : BitVec 1).setWidth 8).getLsbD (q % 8)
      have hsel : ∀ (t : ℕ) (ht : t < 4), q / 8 = t → M (ix2 (n := 16384) (m := 4096) r (4 * k + q / 8) ⟨hr, by omega⟩)
          = M (ix2 (n := 16384) (m := 4096) r (4 * k + t) ⟨hr, by omega⟩) := by rintro t ht rfl; rfl
      split
      · have h8 : q / 8 = 0 := by omega
        rw [hsel 0 (by omega) h8]
      · split
        · have h8 : q / 8 = 1 := by omega
          rw [hsel 1 (by omega) h8]
        · split
          · have h8 : q / 8 = 2 := by omega
            rw [hsel 2 (by omega) h8]
          · have h8 : q / 8 = 3 := by omega
            rw [hsel 3 (by omega) h8]
    rw [e, BitVec.toNat_ofNat]
    have h0 := mbit_le M r (4 * k); have h1 := mbit_le M r (4 * k + 1); have h2 := mbit_le M r (4 * k + 2); have h3 := mbit_le M r (4 * k + 3)
    exact Nat.mod_eq_of_lt (by omega)
  · have hz : ∀ j, mbit M r j = 0 := fun j => by rw [mbit, dif_neg (by omega)]
    rw [at2, dif_neg (by omega), hz, hz, hz, hz]
    rfl

theorem tval_pack (M : S16384x4096.Idx → BitVec 1) (r l : ℕ) (hl : l < 16) :
    (tval (at2 (n := 16384) (m := 1024) (pack M)) r l).toNat
      = (∑ j ∈ Finset.range 64, mbit M r (4 * (16 * j + l)) + ∑ j ∈ Finset.range 64, mbit M r (4 * (16 * j + l) + 1))
        + 65536 * (∑ j ∈ Finset.range 64, mbit M r (4 * (16 * j + l) + 2) + ∑ j ∈ Finset.range 64, mbit M r (4 * (16 * j + l) + 3)) := by
  have h0 := sum_le_of (fun j => mbit M r (4 * (16 * j + l))) 1 64 (fun _ => mbit_le M r _)
  have h1 := sum_le_of (fun j => mbit M r (4 * (16 * j + l) + 1)) 1 64 (fun _ => mbit_le M r _)
  have h2 := sum_le_of (fun j => mbit M r (4 * (16 * j + l) + 2)) 1 64 (fun _ => mbit_le M r _)
  have h3 := sum_le_of (fun j => mbit M r (4 * (16 * j + l) + 3)) 1 64 (fun _ => mbit_le M r _)
  have hs : ∑ j ∈ Finset.range 64, (mbit M r (4 * (16 * j + l)) + 256 * mbit M r (4 * (16 * j + l) + 1) + 65536 * mbit M r (4 * (16 * j + l) + 2)
      + 16777216 * mbit M r (4 * (16 * j + l) + 3))
      = ∑ j ∈ Finset.range 64, mbit M r (4 * (16 * j + l)) + 256 * ∑ j ∈ Finset.range 64, mbit M r (4 * (16 * j + l) + 1)
        + 65536 * ∑ j ∈ Finset.range 64, mbit M r (4 * (16 * j + l) + 2) + 16777216 * ∑ j ∈ Finset.range 64, mbit M r (4 * (16 * j + l) + 3) := by
    simp only [Finset.sum_add_distrib, Finset.mul_sum]
  unfold tval
  refine red_toNat _ _ _ _ _ ((wsum_toNat _ _ 64 (fun j hj => pack_toNat M r (16 * j + l) (by omega)) ?_).trans hs) ?_ ?_ ?_ ?_
  · rw [hs]; omega
  all_goals omega

theorem sum_mul (f : ℕ → ℕ) (a b : ℕ) :
    ∑ k ∈ Finset.range (a * b), f k = ∑ i ∈ Finset.range a, ∑ j ∈ Finset.range b, f (b * i + j) := by
  induction a with
  | zero => simp
  | succ a ih => rw [Nat.succ_mul, Finset.sum_range_add, ih, Finset.sum_range_succ, Nat.mul_comm a b]

theorem len_split (M : S16384x4096.Idx → BitVec 1) (r : ℕ) :
    len M r = ∑ l ∈ Finset.range 16, ((∑ j ∈ Finset.range 64, mbit M r (4 * (16 * j + l)) + ∑ j ∈ Finset.range 64, mbit M r (4 * (16 * j + l) + 1))
      + (∑ j ∈ Finset.range 64, mbit M r (4 * (16 * j + l) + 2) + ∑ j ∈ Finset.range 64, mbit M r (4 * (16 * j + l) + 3))) := by
  unfold len
  rw [show (4096 : ℕ) = (64 * 16) * 4 from rfl, sum_mul, sum_mul, Finset.sum_comm]
  refine Finset.sum_congr rfl fun l _ => ?_
  simp only [← Finset.sum_add_distrib]
  refine Finset.sum_congr rfl fun j _ => ?_
  simp only [Finset.sum_range_succ, Finset.sum_range_zero, Nat.add_zero]
  omega

theorem halves (A B : ℕ) (h : A + B ≤ 4096) : ((A + 65536 * B) % 65536 + (A + 65536 * B) / 2 ^ 16) % 2 ^ 32 = A + B := by
  have h1 : (A + 65536 * B) / 2 ^ 16 = B := by
    show (A + 65536 * B) / 65536 = B
    omega
  rw [h1]
  omega

theorem lens_pack (M : S16384x4096.Idx → BitVec 1) (r : ℕ) :
    (lens (tval (at2 (n := 16384) (m := 1024) (pack M)) r)).toNat = len M r := by
  have hl := len_le M r
  rw [len_split, Finset.sum_add_distrib] at hl
  have hs := wsum_toNat (tval (at2 (n := 16384) (m := 1024) (pack M)) r) _ 16 (fun l hl => tval_pack M r l hl) (by
    rw [Finset.sum_add_distrib, ← Finset.mul_sum]; omega)
  rw [Finset.sum_add_distrib, ← Finset.mul_sum] at hs
  rw [len_split, Finset.sum_add_distrib]
  unfold lens
  rw [BitVec.toNat_add, low_toNat, sshr_toNat _ 16 (by omega), hs]
  exact halves _ _ hl

theorem lens_eq (M : S16384x4096.Idx → BitVec 1) (r : ℕ) :
    lens (tval (at2 (n := 16384) (m := 1024) (pack M)) r) = BitVec.ofNat 32 (len M r) := by
  rw [← lens_pack, BitVec.ofNat_toNat, BitVec.setWidth_eq]

theorem bin_pack (M : S16384x4096.Idx → BitVec 1) (r : ℕ) :
    (bin (at2 (n := 16384) (m := 1024) (pack M)) r).toNat = if len M r = 0 then 4096 else len M r - 1 := by
  have hl := len_le M r
  unfold bin binOf
  rw [lens_eq]
  by_cases h : len M r = 0
  · rw [h]; rfl
  · have hne : ¬ BitVec.ofNat 32 (len M r) = 0#32 := fun e => h (by
      have := congrArg BitVec.toNat e
      rw [BitVec.toNat_ofNat] at this
      simp at this
      omega)
    rw [if_neg hne, if_neg h, BitVec.toNat_sub, BitVec.toNat_ofNat]
    show (2 ^ 32 - 1 + len M r % 2 ^ 32) % 2 ^ 32 = _
    omega

theorem bin_lt (M : S16384x4096.Idx → BitVec 1) (r : ℕ) : (bin (at2 (n := 16384) (m := 1024) (pack M)) r).toNat < 4608 := by
  have hl := len_le M r
  rw [bin_pack]
  split <;> omega

/-- How many rows have length `n`. -/
def rowsOf (M : S16384x4096.Idx → BitVec 1) (n : ℕ) : ℕ := ((Finset.range 16384).filter fun R => len M R = n).card

end Cert.Proof
-- ==== Proof.Launch.lean ====
/-
  The launch: what the two calls carry, the operands cut into the tiles' parts and put together again, @main on the
  TensorCore, and the program's run.
-/
module

public import proofs.«01_k».proof.Proof.Tile
public import proofs.«01_k».proof.Proof.Pack

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held wp_hlo_within)
open Idealize.ShloMosaic.Tactic

variable {F : FTy → Type}

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles' parts -/

/-- The coordinates of tile `i` of SparseCore `c`, in either call's grid. -/
def at0 (c : Fin 2) (i : Fin 16) : grid0.Coords := fun | 0 => c | 1 => i | ⟨_ + 2, h⟩ => absurd h (Nat.not_lt.2 (Nat.le_add_left _ _))
def at1c (c : Fin 2) (i : Fin 16) : grid1.Coords := fun | 0 => c | 1 => i | ⟨_ + 2, h⟩ => absurd h (Nat.not_lt.2 (Nat.le_add_left _ _))

/-- A read share for each tile, and for each of its two copies. -/
def rdC (c : Fin 2) : PosShare TreeShare := dealOf fullShare Finset.univ c
def rdT (c : Fin 2) (i : Fin 16) : PosShare TreeShare := dealOf (rdC c) Finset.univ i
def rdK (c : Fin 2) (i : Fin 16) (k : Fin 2) : PosShare TreeShare := dealOf (rdT c i) Finset.univ k

/-- Something whole is every tile's read share of it. -/
theorem deal_tiles (ℓ : Loc nD τ sig) (f : Buf (Elt F) ℓ) :
    (ℓ ↦{fullShare} f : sProp 𝕄) = bigSep Finset.univ fun c : Fin 2 => bigSep Finset.univ fun i : Fin 16 => ℓ ↦{rdT c i} f := by
  refine (pointsTo_deal (Finset.univ : Finset (Fin 2)) Finset.univ_nonempty fullShare).trans ?_
  exact bigSep_congr fun c _ => pointsTo_deal (Finset.univ : Finset (Fin 16)) Finset.univ_nonempty (rdC c)

theorem deal_two (ℓ : Loc nD τ sig) (f : Buf (Elt F) ℓ) (c : Fin 2) (i : Fin 16) :
    (ℓ ↦{rdT c i} f : sProp 𝕄) = iprop((ℓ ↦{rdK c i 0} f) ∗ (ℓ ↦{rdK c i 1} f)) := by
  refine (pointsTo_deal (Finset.univ : Finset (Fin 2)) Finset.univ_nonempty (rdT c i)).trans ?_
  rw [show (Finset.univ : Finset (Fin 2)) = {0, 1} by decide, SparseCore.bigSep_insert' (by decide), bigSep_singleton]
  rfl

def rowSet (c : Fin 2) (i : Fin 16) : Finset S32x4608.Idx := Finset.univ.filter fun y => (y 0).val = 2 * i.val + c.val
def outSet (c : Fin 2) (i : Fin 16) : Finset S4096.Idx :=
  Finset.univ.filter fun y => 256 * i.val + 128 * c.val ≤ (y 0).val ∧ (y 0).val < 256 * i.val + 128 * c.val + 128

theorem row_set (c : Fin 2) (i : Fin 16) : (rowV (at0 c i)).view.set = rowSet c i := by
  show (((View.whole main_v3_scv).slice _).reshape S4608 _).set = _
  rw [View.set_reshape, View.set_slice_whole]
  ext y
  refine Rect.mem_set_unit.trans ?_
  unfold rowSet
  rw [k0_off136_eq, Finset.mem_filter]
  constructor
  · intro h
    have h0 : 2 * i.val + c.val ≤ (y 0).val ∧ (y 0).val < 2 * i.val + c.val + 1 := h 0
    exact ⟨Finset.mem_univ _, by omega⟩
  · rintro ⟨-, h0⟩ a
    fin_cases a
    · show 2 * i.val + c.val ≤ (y 0).val ∧ (y 0).val < 2 * i.val + c.val + 1; omega
    · have h1 : (y 1).val < 4608 := (y 1).isLt
      show 0 ≤ (y 1).val ∧ (y 1).val < 0 + 4608; omega

theorem out_set (c : Fin 2) (i : Fin 16) : (outV (at1c c i)).view.set = outSet c i := by
  show ((View.whole main_v4_scv).slice _).set = _
  rw [View.set_slice_whole]
  ext y
  refine Rect.mem_set_unit.trans ?_
  unfold outSet
  rw [k1_off33_eq, Finset.mem_filter]
  constructor
  · intro h
    exact ⟨Finset.mem_univ _, h 0⟩
  · rintro ⟨-, h0⟩ a
    fin_cases a
    exact h0

theorem rowSets (f : Fin 2 × Fin 16 → Finset S32x4608.Idx) (hf : ∀ x, f x = rowSet x.1 x.2) :
    (Finset.univ : Finset (Fin 2 × Fin 16)).biUnion f = Finset.univ
      ∧ ∀ x ∈ (Finset.univ : Finset (Fin 2 × Fin 16)), ∀ x' ∈ (Finset.univ : Finset (Fin 2 × Fin 16)), x ≠ x' → Disjoint (f x) (f x') := by
  constructor
  · refine Finset.eq_univ_of_forall fun y => ?_
    have hy : (y 0).val < 32 := (y 0).isLt
    refine Finset.mem_biUnion.mpr ⟨(⟨(y 0).val % 2, by omega⟩, ⟨(y 0).val / 2, by omega⟩), Finset.mem_univ _, ?_⟩
    rw [hf]
    refine Finset.mem_filter.mpr ⟨Finset.mem_univ _, ?_⟩
    show (y 0).val = 2 * ((y 0).val / 2) + (y 0).val % 2
    omega
  · rintro ⟨c, i⟩ - ⟨c', i'⟩ - h
    rw [hf, hf]
    refine Finset.disjoint_left.mpr fun y h1 h2 => h ?_
    have e1 : (y 0).val = 2 * i.val + c.val := (Finset.mem_filter.mp h1).2
    have e2 : (y 0).val = 2 * i'.val + c'.val := (Finset.mem_filter.mp h2).2
    exact Prod.ext (Fin.ext (show c.val = c'.val by omega)) (Fin.ext (show i.val = i'.val by omega))

theorem outSets (f : Fin 2 × Fin 16 → Finset S4096.Idx) (hf : ∀ x, f x = outSet x.1 x.2) :
    (Finset.univ : Finset (Fin 2 × Fin 16)).biUnion f = Finset.univ
      ∧ ∀ x ∈ (Finset.univ : Finset (Fin 2 × Fin 16)), ∀ x' ∈ (Finset.univ : Finset (Fin 2 × Fin 16)), x ≠ x' → Disjoint (f x) (f x') := by
  constructor
  · refine Finset.eq_univ_of_forall fun y => ?_
    have hy : (y 0).val < 4096 := (y 0).isLt
    refine Finset.mem_biUnion.mpr ⟨(⟨(y 0).val / 128 % 2, by omega⟩, ⟨(y 0).val / 256, by omega⟩), Finset.mem_univ _, ?_⟩
    rw [hf]
    refine Finset.mem_filter.mpr ⟨Finset.mem_univ _, ?_⟩
    show 256 * ((y 0).val / 256) + 128 * ((y 0).val / 128 % 2) ≤ (y 0).val ∧ (y 0).val < 256 * ((y 0).val / 256) + 128 * ((y 0).val / 128 % 2) + 128
    omega
  · rintro ⟨c, i⟩ - ⟨c', i'⟩ - h
    rw [hf, hf]
    refine Finset.disjoint_left.mpr fun y h1 h2 => h ?_
    have e1 : 256 * i.val + 128 * c.val ≤ (y 0).val ∧ (y 0).val < 256 * i.val + 128 * c.val + 128 := (Finset.mem_filter.mp h1).2
    have e2 : 256 * i'.val + 128 * c'.val ≤ (y 0).val ∧ (y 0).val < 256 * i'.val + 128 * c'.val + 128 := (Finset.mem_filter.mp h2).2
    exact Prod.ext (Fin.ext (show c.val = c'.val by omega)) (Fin.ext (show i.val = i'.val by omega))

theorem rows_all (d : Dev nD) (f : Buf (Elt F) (v3Loc d)) :
    (v3Loc d ↦{fullShare} f : sProp 𝕄)
      = bigSep Finset.univ fun c : Fin 2 => bigSep Finset.univ fun i : Fin 16 => v3Loc d ↦[(rowV (at0 c i)).view.set]{fullShare} f := by
  have hs := rowSets (fun x => (rowV (at0 x.1 x.2)).view.set) fun x => row_set x.1 x.2
  refine Eq.trans (congrArg (fun I => (v3Loc d ↦[I]{fullShare} f : sProp 𝕄)) hs.1.symm) ?_
  exact (pointsTo_biUnion (ℓ := v3Loc d) (q := fullShare) (f := f) (Finset.univ : Finset (Fin 2 × Fin 16))
    (fun x => (rowV (at0 x.1 x.2)).view.set) hs.2).trans (bigSep_univ_prod _)

theorem outs_all (d : Dev nD) (f : Buf (Elt F) (v4Loc d)) :
    (v4Loc d ↦{fullShare} f : sProp 𝕄)
      = bigSep Finset.univ fun c : Fin 2 => bigSep Finset.univ fun i : Fin 16 => v4Loc d ↦[(outV (at1c c i)).view.set]{fullShare} f := by
  have hs := outSets (fun x => (outV (at1c x.1 x.2)).view.set) fun x => out_set x.1 x.2
  refine Eq.trans (congrArg (fun I => (v4Loc d ↦[I]{fullShare} f : sProp 𝕄)) hs.1.symm) ?_
  exact (pointsTo_biUnion (ℓ := v4Loc d) (q := fullShare) (f := f) (Finset.univ : Finset (Fin 2 × Fin 16))
    (fun x => (outV (at1c x.1 x.2)).view.set) hs.2).trans (bigSep_univ_prod _)

/-! ## The calls' payloads -/

variable [FloatOps F]
variable (m : (ℓ : Loc nD τ sig) → Buf (Elt F) ℓ) (ρ : Dev nD → PrngReg)

/-- The packed mask and the histograms of it. -/
abbrev words (d : Dev nD) : Buf (Elt F) (v2Loc d) := pack (m (mkLoc d))
abbrev hists (d : Dev nD) : Buf (Elt F) (v3Loc d) := hist (pack (m (mkLoc d)))
abbrev results (d : Dev nD) : Buf (Elt F) (v4Loc d) := out (hist (pack (m (mkLoc d)))) (m (p0Loc d))

def pay0 (d : Dev nD) (f3 : Buf (Elt F) (v3Loc d)) (c : Fin 2) (i : Fin 16) : sProp 𝕄 := task0 d (at0 c i) (rdK c i 0) (rdK c i 1) (words m d) f3
def pay1 (d : Dev nD) (f4 : Buf (Elt F) (v4Loc d)) (c : Fin 2) (i : Fin 16) : sProp 𝕄 := task1 d (at1c c i) (rdT c i) (rdT c i) (hists m d) (m (p0Loc d)) f4

instance pay0_storable (d : Dev nD) (f3 : Buf (Elt F) (v3Loc d)) (c : Fin 2) (i : Fin 16) : BI.Storable (upEmb : UEmb _ 𝕄) (pay0 m d f3 c i) := by
  unfold pay0; infer_instance
instance pay1_storable (d : Dev nD) (f4 : Buf (Elt F) (v4Loc d)) (c : Fin 2) (i : Fin 16) : BI.Storable (upEmb : UEmb _ 𝕄) (pay1 m d f4 c i) := by
  unfold pay1; infer_instance

omit [FloatOps F] in
theorem sep_assoc3 (A B C : sProp 𝕄) : iprop((A ∗ B) ∗ C) = iprop(A ∗ B ∗ C) := by
  have h1 : iprop((A ∗ B) ∗ C) ⊢ iprop(A ∗ B ∗ C) := by
    iintro ⟨⟨Ha, Hb⟩, Hc⟩
    isplitl [Ha]; · iexact Ha
    isplitl [Hb] <;> iassumption
  have h2 : iprop(A ∗ B ∗ C) ⊢ iprop((A ∗ B) ∗ C) := by
    iintro ⟨Ha, Hb, Hc⟩
    isplitr [Hc]
    · isplitl [Ha] <;> iassumption
    · iexact Hc
  exact Idealize.SL.BI.Entails.antisymm h1 h2

theorem pay0_all (d : Dev nD) (f3 : Buf (Elt F) (v3Loc d)) :
    (bigSep Finset.univ fun c : Fin 2 => bigSep Finset.univ fun i : Fin 16 => pay0 m d f3 c i)
      = iprop((v2Loc d ↦{fullShare} words m d) ∗ (v3Loc d ↦{fullShare} f3)) := by
  rw [deal_tiles, rows_all, ← bigSep_sep']
  refine bigSep_congr fun c _ => ?_
  rw [← bigSep_sep']
  refine bigSep_congr fun i _ => ?_
  rw [deal_two]
  unfold pay0 task0
  exact (sep_assoc3 _ _ _).symm

theorem pay1_all (d : Dev nD) (f4 : Buf (Elt F) (v4Loc d)) :
    (bigSep Finset.univ fun c : Fin 2 => bigSep Finset.univ fun i : Fin 16 => pay1 m d f4 c i)
      = iprop((v3Loc d ↦{fullShare} hists m d) ∗ (p0Loc d ↦{fullShare} m (p0Loc d)) ∗ (v4Loc d ↦{fullShare} f4)) := by
  rw [deal_tiles (ℓ := v3Loc d), deal_tiles (ℓ := p0Loc d), outs_all, ← bigSep_sep', ← bigSep_sep']
  refine bigSep_congr fun c _ => ?_
  rw [← bigSep_sep', ← bigSep_sep']
  rfl

/-- What a call hands SparseCore `c`, and what that brings back, is what its tiles are handed and bring back. -/
def P : (K (F := F)).Pay (nD := nD) (Val := Elt F) (Name := ℕ) (U := UU) where
  st := fun q d c => match q with
    | 0 => bigSep Finset.univ fun i : Fin 16 => pay0 m d (m (v3Loc d)) c i
    | 1 => bigSep Finset.univ fun i : Fin 16 => pay1 m d (m (v4Loc d)) c i
  dn := fun q d c => match q with
    | 0 => bigSep Finset.univ fun i : Fin 16 => pay0 m d (hists m d) c i
    | 1 => bigSep Finset.univ fun i : Fin 16 => pay1 m d (results m d) c i
  go := fun q d c i => match q with
    | 0 => pay0 m d (m (v3Loc d)) c i
    | 1 => pay1 m d (m (v4Loc d)) c i
  td := fun q d c i => match q with
    | 0 => pay0 m d (hists m d) c i
    | 1 => pay1 m d (results m d) c i
  x := fun _ _ => iprop(emp)

instance P_storable : (P (F := F) m).IsStorable where
  st q d c := match q with
    | 0 => (inferInstance : BI.Storable (upEmb : UEmb _ 𝕄) (bigSep Finset.univ fun i : Fin 16 => pay0 m d (m (v3Loc d)) c i))
    | 1 => (inferInstance : BI.Storable (upEmb : UEmb _ 𝕄) (bigSep Finset.univ fun i : Fin 16 => pay1 m d (m (v4Loc d)) c i))
  dn q d c := match q with
    | 0 => (inferInstance : BI.Storable (upEmb : UEmb _ 𝕄) (bigSep Finset.univ fun i : Fin 16 => pay0 m d (hists m d) c i))
    | 1 => (inferInstance : BI.Storable (upEmb : UEmb _ 𝕄) (bigSep Finset.univ fun i : Fin 16 => pay1 m d (results m d) c i))
  go q d c i := match q with
    | 0 => (inferInstance : BI.Storable (upEmb : UEmb _ 𝕄) (pay0 m d (m (v3Loc d)) c i))
    | 1 => (inferInstance : BI.Storable (upEmb : UEmb _ 𝕄) (pay1 m d (m (v4Loc d)) c i))
  td q d c i := match q with
    | 0 => (inferInstance : BI.Storable (upEmb : UEmb _ 𝕄) (pay0 m d (hists m d) c i))
    | 1 => (inferInstance : BI.Storable (upEmb : UEmb _ 𝕄) (pay1 m d (results m d) c i))

/-! ## The launch theorem's obligations -/

theorem defs₀_call0 (c : Fin τ.nSC) (s : Fin τ.nSub) :
    defs₀ (F := F) (.scVector c s) 0 ()
      = SparseCore.onTile hcore0 hsub0 (fun c s => cc0__row_hist_body (at0 c s) a2 (Memref.isWhole_whole _) a3 (Memref.isWhole_whole _) a4 (Memref.isWhole_whole _)
          a5 (Memref.isWhole_whole _) a6 (Memref.isWhole_whole _) a7 (Memref.isWhole_whole _) cc0_scratch4 cc0_scratch5 cc0_scoped0) ⟨⟩ c s := rfl

theorem defs₀_call1 (c : Fin τ.nSC) (s : Fin τ.nSub) :
    defs₀ (F := F) (.scVector c s) 1 ()
      = SparseCore.onTile hcore1 hsub1 (fun c s => cc1__combine_body (at1c c s) a3 (Memref.isWhole_whole _) b3 (Memref.isWhole_whole _) b4 (Memref.isWhole_whole _)
          b5 (Memref.isWhole_whole _) b6 (Memref.isWhole_whole _) b7 (Memref.isWhole_whole _) cc1_scratch3 cc1_scoped0 cc1_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_call0]; simp only [SparseCore.onTile, hc, and_self, ↓reduceDIte]
  exact (tile0 d (at0 c i) (rdK c i 0) (rdK c i 1) (words m d) facts (bin_lt (m (mkLoc d))) (m (v3Loc d)) O W hO).trans (wp_mono frame _ _ fun _ => obl_post)

theorem tileObl1 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_call1]; simp only [SparseCore.onTile, hc, and_self, ↓reduceDIte]
  exact (tile1 d (at1c c i) (rdT c i) (rdT c i) (hists m d) (m (p0Loc d)) facts (m (v4Loc d)) O W hO).trans (wp_mono frame _ _ fun _ => obl_post)

theorem split0 : (K (F := F)).VecSplit' (P m) 0 := by
  intro d c
  show (bigSep Finset.univ fun i : Fin 16 => pay0 m d (m (v3Loc d)) c i) ⊢ |={Set.univ}=> iprop((bigSep Finset.univ fun i : Fin 16 => pay0 m d (m (v3Loc d)) c i)
    ∗ ((bigSep Finset.univ fun i : Fin 16 => pay0 m d (hists m d) c i) -∗ (bigSep Finset.univ fun i : Fin 16 => pay0 m d (hists m d) c i)))
  iintro H; imodintro
  isplitl [H]; · iexact H
  iintro H; iexact H

theorem split1 : (K (F := F)).VecSplit' (P m) 1 := by
  intro d c
  show (bigSep Finset.univ fun i : Fin 16 => pay1 m d (m (v4Loc d)) c i) ⊢ |={Set.univ}=> iprop((bigSep Finset.univ fun i : Fin 16 => pay1 m d (m (v4Loc d)) c i)
    ∗ ((bigSep Finset.univ fun i : Fin 16 => pay1 m d (results m d) c i) -∗ (bigSep Finset.univ fun i : Fin 16 => pay1 m d (results m d) c i)))
  iintro H; imodintro
  isplitl [H]; · iexact H
  iintro H; iexact H

/-! ## The launch element -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 2 => (iprop(emp) : sProp 𝕄)) = iprop(emp) from by
    rw [bigSep_congr fun _ _ => emps _, emps]]
  iempintro

/-! ## @main on the TensorCore -/

abbrev rp : DevRef τ sig := Proc.devRef .tc (main_arg0 : Ref sig .tc)
abbrev rm : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev opBytes : HloOp τ sig (Elt F) :=
  StableHlo.unary main_arg1 main_v0 ((extui 8 · natLt_1_8) : (⟨S16384x4096, .i1⟩ : BufTy).Contents (Elt F) → (⟨S16384x4096, .i8⟩ : BufTy).Contents (Elt F))
abbrev opFours : HloOp τ sig (Elt F) :=
  StableHlo.reshape main_v0 main_v1 (rfl : (.i8 : EltTy) = .i8) shapeCasts_S16384x4096_S16384x1024x4
abbrev opWords : HloOp τ sig (Elt F) :=
  StableHlo.unary main_v1 main_v2 ((fun x => Host.bitcastConvertWiden S16384x1024 32 x splits_S16384x1024_w32_S16384x1024x4_w8) :
    (⟨S16384x1024x4, .i8⟩ : BufTy).Contents (Elt F) → (⟨S16384x1024, .i32⟩ : BufTy).Contents (Elt F))

/-- The TensorCore's arrays. -/
abbrev arrs : Finset (DevRef τ sig) := {rp, rm, r0, r1, r2, r3, r4}

omit [FloatOps F] in
theorem held_arrs (d : Dev nD) (W : Valuation τ sig (Elt F)) :
    (held (SparseCore.T d) arrs W : sProp 𝕄) = iprop((p0Loc d ↦{fullShare} W rp) ∗ (mkLoc d ↦{fullShare} W rm) ∗ ((SparseCore.T d).loc main_v0 ↦{fullShare} W r0)
      ∗ ((SparseCore.T d).loc main_v1 ↦{fullShare} W r1) ∗ (v2Loc d ↦{fullShare} W r2) ∗ (v3Loc d ↦{fullShare} W r3) ∗ (v4Loc d ↦{fullShare} W r4)) := by
  unfold held arrs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_arrs (d : Dev nD) : (unscopedBufs d (fun b => m ((SparseCore.T d).loc b)) : sProp 𝕄) = held (SparseCore.T d) arrs fun b => m (d, b) := by
  rw [held_arrs]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays before the calls. -/
abbrev W0 (d : Dev nD) : Valuation τ sig (Elt F) := fun b => m (d, b)
abbrev W1 (d : Dev nD) : Valuation τ sig (Elt F) := (opBytes (F := F)).result (W0 m d)
abbrev W2 (d : Dev nD) : Valuation τ sig (Elt F) := (opFours (F := F)).result (W1 m d)
abbrev W3 (d : Dev nD) : Valuation τ sig (Elt F) := (opWords (F := F)).result (W2 m d)

theorem W3_kept (d : Dev nD) (b : DevRef τ sig) (h0 : b ≠ r0) (h1 : b ≠ r1) (h2 : b ≠ r2) : W3 m d b = m (d, b) := by
  unfold W3 W2 W1
  rw [HloOp.result_of_not_mem _ _ (show b ∉ ({r2} : Finset (DevRef τ sig)) by simpa using h2),
    HloOp.result_of_not_mem _ _ (show b ∉ ({r1} : Finset (DevRef τ sig)) by simpa using h1),
    HloOp.result_of_not_mem _ _ (show b ∉ ({r0} : Finset (DevRef τ sig)) by simpa using h0)]

theorem W1_bytes (d : Dev nD) : W1 m d r0 = extui 8 (m (mkLoc d)) natLt_1_8 := StableHlo.unary_result' ..

theorem W2_fours (d : Dev nD) : W2 m d r1 = shapeCast S16384x1024x4 (extui 8 (m (mkLoc d)) natLt_1_8) shapeCasts_S16384x4096_S16384x1024x4 :=
  (StableHlo.reshape_result' ..).trans (congrArg (fun x => shapeCast S16384x1024x4 x shapeCasts_S16384x4096_S16384x1024x4) (W1_bytes m d))

theorem W3_words (d : Dev nD) : W3 m d r2 = words m d :=
  (StableHlo.unary_result' ..).trans
    (congrArg (fun x => Host.bitcastConvertWiden S16384x1024 32 x splits_S16384x1024_w32_S16384x1024x4_w8) (W2_fours m d))

theorem st0 (d : Dev nD) : (bigSep Finset.univ fun c : Fin ((K (F := F)).nCore 0) => (P m).st 0 d c)
    = iprop((v2Loc d ↦{fullShare} words m d) ∗ (v3Loc d ↦{fullShare} m (v3Loc d))) := pay0_all m d _
theorem dn0 (d : Dev nD) : (bigSep Finset.univ fun c : Fin ((K (F := F)).nCore 0) => (P m).dn 0 d c)
    = iprop((v2Loc d ↦{fullShare} words m d) ∗ (v3Loc d ↦{fullShare} hists m d)) := pay0_all m d _
theorem st1 (d : Dev nD) : (bigSep Finset.univ fun c : Fin ((K (F := F)).nCore 1) => (P m).st 1 d c)
    = iprop((v3Loc d ↦{fullShare} hists m d) ∗ (p0Loc d ↦{fullShare} m (p0Loc d)) ∗ (v4Loc d ↦{fullShare} m (v4Loc d))) := pay1_all m d _
theorem dn1 (d : Dev nD) : (bigSep Finset.univ fun c : Fin ((K (F := F)).nCore 1) => (P m).dn 1 d c)
    = iprop((v3Loc d ↦{fullShare} hists m d) ∗ (p0Loc d ↦{fullShare} m (p0Loc d)) ∗ (v4Loc d ↦{fullShare} results m d)) := pay1_all m d _

/-- What @main leaves the claim: the arguments as they were, the results. -/
abbrev FIN (d : Dev nD) : sProp 𝕄 :=
  iprop((p0Loc d ↦{fullShare} m (p0Loc d)) ∗ (mkLoc d ↦{fullShare} m (mkLoc d)) ∗ (v4Loc d ↦{fullShare} results m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_arrs]
  simp only [main, wp_bind, wp_pure]
  iintro ⟨#Hctx, Hst, ⟨Hb, Hheld, Hts, -⟩, -⟩
  iapply (wp_hlo_within 𝒱 (SparseCore.T d) none Set.univ (op := opBytes) (S := arrs) (show ({rm, r0} : Finset (DevRef τ sig)) ⊆ arrs by decide) (V := W0 m d)) $$ [Hb Hheld]
  · isplitl [Hb] <;> iassumption
  iintro ⟨Hb, Hheld⟩
  rw [wp_ret]; imodintro
  iapply (wp_hlo_within 𝒱 (SparseCore.T d) none Set.univ (op := opFours) (S := arrs) (show ({r0, r1} : Finset (DevRef τ sig)) ⊆ arrs by decide) (V := W1 m d)) $$ [Hb Hheld]
  · isplitl [Hb] <;> iassumption
  iintro ⟨Hb, Hheld⟩
  rw [wp_ret]; imodintro
  iapply (wp_hlo_within 𝒱 (SparseCore.T d) none Set.univ (op := opWords) (S := arrs) (show ({r1, r2} : Finset (DevRef τ sig)) ⊆ arrs by decide) (V := W2 m d)) $$ [Hb Hheld]
  · isplitl [Hb] <;> iassumption
  iintro ⟨Hb, Hheld⟩
  rw [wp_ret]; imodintro
  ihave Hh := (Entails.of_eq (held_arrs (F := F) d (W3 m d))) $$ Hheld
  rw [W3_words, W3_kept m d rp (by decide) (by decide) (by decide), W3_kept m d rm (by decide) (by decide) (by decide),
    W3_kept m d r3 (by decide) (by decide) (by decide), W3_kept m d r4 (by decide) (by decide) (by decide)]
  icases Hh with ⟨Hp, Hm, -, -, H2, H3, H4⟩
  iapply ((K (F := F)).wp_run (D (F := F)) 𝒱 (EH := EH) (P := P m) κ d 0) $$ [Hst Hp Hm H2 H3 H4 Hb Hts]
  isplitr; · iexact Hctx
  isplitl [Hst]; · iexact Hst
  isplitl [H2 H3]
  · rw [st0]
    isplitl [H2] <;> iassumption
  iintro ⟨Hst, Hdn⟩
  ihave Hdn' := (Entails.of_eq (dn0 m d)) $$ Hdn
  icases Hdn' with ⟨-, H3⟩
  iapply ((K (F := F)).wp_run (D (F := F)) 𝒱 (EH := EH) (P := P m) κ d 1) $$ [Hst Hp Hm H3 H4 Hb Hts]
  isplitr; · iexact Hctx
  isplitl [Hst]; · iexact Hst
  isplitl [H3 Hp H4]
  · rw [st1]
    isplitl [H3]; · iexact H3
    isplitl [Hp] <;> iassumption
  iintro ⟨Hst, Hdn⟩
  ihave Hdn' := (Entails.of_eq (dn1 m d)) $$ Hdn
  icases Hdn' with ⟨-, Hp, H4⟩
  imodintro
  isplitl [Hst]; · iexact Hst
  isplitr [Hb Hts]
  · isplitl [Hp]; · iexact Hp
    isplitl [Hm] <;> iassumption
  isplitl [Hb] <;> iassumption

def fq (d : Dev nD) (s' : Phys nD τ sig (Elt F)) : Prop :=
  s'.mem.mem (v4Loc d) = results m d ∧ s'.mem.mem (p0Loc d) = m (p0Loc d) ∧ s'.mem.mem (mkLoc d) = m (mkLoc d)

omit [FloatOps F] in
theorem agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (p0Loc d) = m (p0Loc d)⌝ : sProp 𝕄) := by
    iintro ⟨⟨Hp, -, -⟩, HSI⟩
    iapply (agree (p0Loc d) (m (p0Loc d)) s')
    isplitl [Hp] <;> iassumption
  have h2 : iprop(FIN m d ∗ SI s') ⊢ (⌜s'.mem.mem (mkLoc d) = m (mkLoc d)⌝ : sProp 𝕄) := by
    iintro ⟨⟨-, Hp, -⟩, HSI⟩
    iapply (agree (mkLoc d) (m (mkLoc d)) s')
    isplitl [Hp] <;> iassumption
  have h3 : iprop(FIN m d ∗ SI s') ⊢ (⌜s'.mem.mem (v4Loc d) = results m d⌝ : sProp 𝕄) := by
    iintro ⟨⟨-, -, Hp⟩, HSI⟩
    iapply (agree (v4Loc d) (results m d) s')
    isplitl [Hp] <;> iassumption
  exact fun a h => ⟨h3 a h, h1 a h, h2 a h⟩

/-! ## The program's run -/

def QC : PUnit × MemSt nD τ sig (Elt F) → Prop := fun r =>
  (∀ c : Dev nD, r.2.mem (v4Loc c) = results m c ∧ r.2.mem (p0Loc c) = m (p0Loc c) ∧ r.2.mem (mkLoc c) = m (mkLoc c)) ∧ r.2.sem = fun _ => 0

/-- From any memory with zero counters the program runs to its end with the results `results`, its arguments as they were and
    every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => match q with | 0 => SparseCore.Cfg.VecSplit.of_plain (split0 m) | 1 => SparseCore.Cfg.VecSplit.of_plain (split1 m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Count.lean ====
/-
  The histograms of all tiles, added bin by bin, are the numbers of rows of each length.
-/
module

public import proofs.«01_k».proof.Proof.Pack
public import proofs.«01_k».proof.Proof.Body1

@[expose] public section

set_option maxRecDepth 16384

noncomputable section

namespace Cert.Proof

open Cert.KernelIdeal Cert.KernelIdeal.Gen
open Idealize.ShloMosaic

theorem card_sum (p : ℕ → Prop) [DecidablePred p] (n : ℕ) : ((Finset.range n).filter p).card = ∑ R ∈ Finset.range n, if p R then 1 else 0 := by
  rw [Finset.card_filter]

theorem bin_iff (M : S16384x4096.Idx → BitVec 1) (r j : ℕ) (hj : j < 4096) :
    (bin (at2 (n := 16384) (m := 1024) (pack M)) r).toNat = j ↔ len M r = j + 1 := by
  rw [bin_pack]
  split <;> omega

/-- Over all the tiles' histograms, bin `j` holds the number of rows of length `j + 1`. -/
theorem hist_sum (M : S16384x4096.Idx → BitVec 1) (j : ℕ) (hj : j < 4096) :
    wsum (fun r => at2 (n := 32) (m := 4608) (hist (pack M)) r j) 32 = BitVec.ofNat 32 (rowsOf M (j + 1)) := by
  have hc : ∀ w : ℕ, w < 32 → (at2 (n := 32) (m := 4608) (hist (pack M)) w j).toNat
      = ∑ R ∈ Finset.range 512, if len M (512 * w + R) = j + 1 then 1 else 0 := by
    intro w hw
    have hle := Finset.card_filter_le (Finset.range 512) fun R => (bin (at2 (n := 16384) (m := 1024) (pack M)) (512 * w + R)).toNat = j
    rw [Finset.card_range] at hle
    rw [at2, dif_pos ⟨hw, by omega⟩]
    show (BitVec.ofNat 32 (cnt (pack M) (512 * w) 512 j)).toNat = _
    rw [BitVec.toNat_ofNat, ← card_sum]
    unfold cnt
    rw [Nat.mod_eq_of_lt (by omega)]
    refine congrArg Finset.card (Finset.filter_congr fun R _ => ?_)
    exact bin_iff M (512 * w + R) j hj
  have hr : ∑ w ∈ Finset.range 32, (∑ R ∈ Finset.range 512, if len M (512 * w + R) = j + 1 then 1 else 0) = rowsOf M (j + 1) := by
    unfold rowsOf
    rw [card_sum, show (16384 : ℕ) = 32 * 512 from rfl, sum_mul]
  have hb : rowsOf M (j + 1) ≤ 16384 := by
    have := Finset.card_filter_le (Finset.range 16384) fun R => len M R = j + 1
    rw [Finset.card_range] at this
    exact this
  have h := wsum_toNat _ _ 32 hc (by rw [hr]; omega)
  rw [hr] at h
  rw [← h, BitVec.ofNat_toNat, BitVec.setWidth_eq]

end Cert.Proof
-- ==== Proof.Ref.lean ====
/-
  The reference's counts: its sum along the mask's rows is each row's length, its histogram of the lengths holds at `n` the
  number of rows of length `n`, and its quotient by the number of rows is the kernel's product with the reciprocal.
-/
module

public import proofs.«01_k».proof.Proof.Count
public import proofs.«01_k».proof.Proof.Gen.ReferenceIdeal.Run
public import Idealize.ShloMosaic.Lib.Pointwise.Reduce
public import Idealize.ShloMosaic.Lib.Routing.OpsPair
public import Idealize.ShloMosaic.Lib.IdealHost

@[expose] public section

set_option maxRecDepth 16384

noncomputable section

namespace Cert.Proof

open Cert.ReferenceIdeal Cert.ReferenceIdeal.Gen
open Idealize.ShloMosaic

/-! ## A fold of word additions is the word of a sum -/

theorem fold_add {I : Type} (p : I → Prop) [DecidablePred p] (f : I → BitVec 32) (g : I → ℕ) (h : ∀ n, f n = BitVec.ofNat 32 (g n)) (L : List I) (a : ℕ) :
    L.foldl (fun r n => if p n then IntOp.addi r (f n) else r) (BitVec.ofNat 32 a) = BitVec.ofNat 32 (a + (L.map fun n => if p n then g n else 0).sum) := by
  induction L generalizing a with
  | nil => rfl
  | cons n L ih =>
    rw [List.foldl_cons, List.map_cons, List.sum_cons]
    by_cases hn : p n
    · rw [if_pos hn, if_pos hn, h, show IntOp.addi (BitVec.ofNat 32 a) (BitVec.ofNat 32 (g n)) = BitVec.ofNat 32 (a + g n) from (BitVec.ofNat_add ..).symm, ih, Nat.add_assoc]
    · rw [if_neg hn, if_neg hn, ih, Nat.zero_add]

/-- The same over the positions of an array, `q` what picks among them. -/
theorem fold_idx (s : Shape) (q : s.Idx → Prop) [DecidablePred q] (f : s.Idx → BitVec 32) (g : s.Idx → ℕ) (h : ∀ n, f n = BitVec.ofNat 32 (g n)) :
    (List.finRange s.numel).foldl (fun r n => if q (s.rowMajor.symm n) then IntOp.addi r (f (s.rowMajor.symm n)) else r) 0#32
      = BitVec.ofNat 32 (∑ i : s.Idx, if q i then g i else 0) := by
  refine (fold_add (fun n => q (s.rowMajor.symm n)) _ (fun n => g (s.rowMajor.symm n)) (fun n => h _) _ 0).trans ?_
  rw [Nat.zero_add, ← List.ofFn_eq_map, List.sum_ofFn, Equiv.sum_comp s.rowMajor.symm fun i => if q i then g i else 0]

/-! ## The rows' lengths -/

theorem ref_len (M : S16384x4096.Idx → BitVec 1) (y : S16384.Idx) :
    Host.reduce IntOp.addi (extui 32 M natLt_1_32) (constantI S_ 32 0#32) reducesTo_S16384x4096_S16384_d1 h_S_ y = BitVec.ofNat 32 (len M (y 0).val) := by
  unfold Host.reduce
  rw [List.foldl_filter]
  refine Eq.trans ?_ ((fold_idx S16384x4096 (fun i => Shape.ReducesTo.drop reducesTo_S16384x4096_S16384_d1 i = y) (extui 32 M natLt_1_32) (fun i => (M i).toNat) ?_).trans ?_)
  · simp only [decide_eq_true_eq]
    rfl
  · intro i
    show (M i).setWidth 32 = _
    exact BitVec.eq_of_toNat_eq (by rw [BitVec.toNat_setWidth, BitVec.toNat_ofNat])
  · rw [← Finset.sum_filter, Shape.ReducesTo.sum_fiber_r2_a1 (n0 := 16384) (n1 := 4096) reducesTo_S16384x4096_S16384_d1 y fun i => (M i).toNat]
    unfold len
    rw [← Fin.sum_univ_eq_sum_range (fun k => mbit M (y 0).val k) 4096]
    refine congrArg (BitVec.ofNat 32) (Finset.sum_congr rfl fun k _ => ?_)
    rw [mbit, dif_pos ⟨(y 0).isLt, k.isLt⟩]
    refine congrArg (fun i => (M i).toNat) (funext fun a => ?_)
    fin_cases a <;> rfl

/-! ## The histogram of the lengths -/

theorem small_toInt {n : ℕ} (hn : n ≤ 4096) : (BitVec.ofNat 32 n).toInt = (n : Int) := by
  have h : (BitVec.ofNat 32 n).toNat = n := by rw [BitVec.toNat_ofNat, Nat.mod_eq_of_lt (by omega)]
  rw [BitVec.toInt_eq_toNat_of_lt (by rw [h]; omega), h]

theorem ref_lands (idx : IVec S16384x1 32) (u : S16384.Idx) (x : S4097.Idx) (n : ℕ) (hn : n ≤ 4096)
    (hi : idx (ValueIdx.ix2 (u 0) (0 : Fin 1)) = BitVec.ofNat 32 n) :
    scatter_S4097_S16384x1_S16384_n_0_0_1.resultIdx? u idx = some x ↔ n = (x 0).val := by
  rw [Routing.resultIdx?_eq_some]
  have hw : scatter_S4097_S16384x1_S16384_n_0_0_1.window u 0 = 0 := by
    unfold ScatterDims.window
    rw [dif_neg (by decide)]
  have hst : scatter_S4097_S16384x1_S16384_n_0_0_1.start u idx 0 = (n : Int) := by
    have hs : ∀ k, scatter_S4097_S16384x1_S16384_n_0_0_1.siIdx u k = ValueIdx.ix2 (u 0) (0 : Fin 1) := by
      intro k
      funext b
      fin_cases b
      · rfl
      · exact Fin.ext (by have := (scatter_S4097_S16384x1_S16384_n_0_0_1.siIdx u k 1).isLt; show (scatter_S4097_S16384x1_S16384_n_0_0_1.siIdx u k 1).val = 0; change _ < 1 at this; omega)
    unfold ScatterDims.start
    rw [dif_pos (by decide)]
    refine (congrArg BitVec.toInt ((congrArg idx (hs _)).trans hi)).trans ?_
    exact small_toInt hn
  constructor
  · intro h
    have h0 := h 0
    rw [hw, hst] at h0
    omega
  · intro h a
    fin_cases a
    show scatter_S4097_S16384x1_S16384_n_0_0_1.start u idx 0 + (scatter_S4097_S16384x1_S16384_n_0_0_1.window u 0 : Int) = ((x 0).val : Int)
    rw [hw, hst]
    omega

theorem ref_count (M : S16384x4096.Idx → BitVec 1) (idx : IVec S16384x1 32) (hi : ∀ u : S16384.Idx, idx (ValueIdx.ix2 (u 0) (0 : Fin 1)) = BitVec.ofNat 32 (len M (u 0).val))
    (x0 : IVec S4097 32) (hx0 : ∀ x, x0 x = 0#32) (upd : IVec S16384 32) (hu : ∀ u, upd u = 1#32) (x : S4097.Idx) :
    Host.scatter scatter_S4097_S16384x1_S16384_n_0_0_1 IntOp.addi x0 idx upd x = BitVec.ofNat 32 (rowsOf M (x 0).val) := by
  rw [Routing.scatter_at, hx0]
  refine (fold_idx S16384 (fun u => scatter_S4097_S16384x1_S16384_n_0_0_1.resultIdx? u idx = some x) upd (fun _ => 1) hu).trans (congrArg (BitVec.ofNat 32) ?_)
  unfold rowsOf
  rw [card_sum, ← Fin.sum_univ_eq_sum_range (fun R => if len M R = (x 0).val then 1 else 0) 16384]
  refine Fintype.sum_equiv ⟨fun u : S16384.Idx => (u 0 : Fin 16384), fun R => fun a => match a with | ⟨0, _⟩ => R, fun u => ?_, fun R => rfl⟩ _ _ fun u => ?_
  · funext a
    fin_cases a
    rfl
  · refine if_congr ?_ rfl rfl
    exact ref_lands idx u x (len M (u 0).val) (len_le M _) (hi u)

/-! ## The mixing weights at the ideal numbers -/

theorem rows_f32 : Ideal.ofBits .f32 0x46800000#32 = ((16384 : ℝ) : EReal) := by
  simp [Ideal.ofBits, Ideal.ieee, -EReal.coe_mul]; norm_num

theorem recip_f32 : Ideal.ofBits .f32 0x38800000#32 = (((1 : ℝ) / 16384 : ℝ) : EReal) := by
  simp [Ideal.ofBits, Ideal.ieee, -EReal.coe_mul]; norm_num

theorem quot_eq (x : EReal) : Ideal.div x (Ideal.ofBits .f32 0x46800000#32) = x * Ideal.ofBits .f32 0x38800000#32 := by
  rw [rows_f32, recip_f32, Ideal.div_coe (by norm_num)]

/-! ## The reference's results -/

/-- The lengths as the histogram reads them: none is negative, so each is itself. -/
theorem ref_index (M : S16384x4096.Idx → BitVec 1) (u : S16384.Idx) :
    (select (cmpi .slt (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 0#32))) (addi (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 4097#32))) (maxsi (broadcastInDim S16384 ![] bcast_S_S16384 (id (constantI S_ 32 0#32))) (Host.reduce IntOp.addi (extui 32 M natLt_1_32) (constantI S_ 32 0#32) reducesTo_S16384x4096_S16384_d1 h_S_))) u = BitVec.ofNat 32 (len M (u 0).val) := by
  have hl := len_le M (u 0).val
  have hneg : (BitVec.ofNat 32 (len M (u 0).val)).slt 0#32 = false := by
    rw [BitVec.slt_eq_decide, small_toInt hl, decide_eq_false_iff_not]
    show ¬ ((len M (u 0).val : Int) < 0)
    omega
  have hclip : (maxsi (broadcastInDim S16384 ![] bcast_S_S16384 (id (constantI S_ 32 0#32))) (Host.reduce IntOp.addi (extui 32 M natLt_1_32) (constantI S_ 32 0#32) reducesTo_S16384x4096_S16384_d1 h_S_)) u = BitVec.ofNat 32 (len M (u 0).val) := by
    show IntOp.maxsi 0#32 (Host.reduce IntOp.addi (extui 32 M natLt_1_32) (constantI S_ 32 0#32) reducesTo_S16384x4096_S16384_d1 h_S_ u) = _
    rw [ref_len, IntOp.maxsi, hneg]
    rfl
  show (if IntOp.cmpi .slt ((maxsi (broadcastInDim S16384 ![] bcast_S_S16384 (id (constantI S_ 32 0#32))) (Host.reduce IntOp.addi (extui 32 M natLt_1_32) (constantI S_ 32 0#32) reducesTo_S16384x4096_S16384_d1 h_S_)) u) 0#32 = 1#1 then IntOp.addi ((maxsi (broadcastInDim S16384 ![] bcast_S_S16384 (id (constantI S_ 32 0#32))) (Host.reduce IntOp.addi (extui 32 M natLt_1_32) (constantI S_ 32 0#32) reducesTo_S16384x4096_S16384_d1 h_S_)) u) 4097#32 else (maxsi (broadcastInDim S16384 ![] bcast_S_S16384 (id (constantI S_ 32 0#32))) (Host.reduce IntOp.addi (extui 32 M natLt_1_32) (constantI S_ 32 0#32) reducesTo_S16384x4096_S16384_d1 h_S_)) u) = _
  rw [hclip, IntOp.cmpi, hneg]
  rfl

theorem ref_bcast (v : IVec S16384 32) (u : S16384.Idx) :
    broadcastInDim S16384x1 ![0] bcast_S16384_S16384x1_0 v (ValueIdx.ix2 (u 0) (0 : Fin 1)) = v u := by
  unfold broadcastInDim
  refine congrArg v (funext fun a => ?_)
  fin_cases a
  exact Fin.ext rfl

theorem ref_mix (p : S4096.Idx → Ideal .f32) (C : S4097.Idx → BitVec 32) (y : S4096.Idx) (w : BitVec 32)
    (hw : extractStridedSlice S4096 ![1] C slices_S4097_S4096_1 y = w) :
    (addf (mulf (broadcastInDim S4096 ![] bcast_S_S4096 (constant S_ .f32 0x3F7FBE77#32)) p) (mulf (broadcastInDim S4096 ![] bcast_S_S4096 (constant S_ .f32 0x3A83126F#32))
      (Host.divf (sitofp .f32 (extractStridedSlice S4096 ![1] C slices_S4097_S4096_1)) (broadcastInDim S4096 ![] bcast_S_S4096 (constant S_ .f32 0x46800000#32)))) : S4096.Idx → Ideal .f32) y
      = mixOf (p y) w := by
  show FloatOps.addf (FloatOps.mulf (Scalar.ofBits .f32 0x3F7FBE77#32) (p y)) (FloatOps.mulf (Scalar.ofBits .f32 0x3A83126F#32)
    (Ideal.div (FloatOps.sitofp (F := Ideal) .f32 (extractStridedSlice S4096 ![1] C slices_S4097_S4096_1 y)) (Ideal.ofBits .f32 0x46800000#32))) = _
  rw [hw, quot_eq]
  rfl

theorem ref_slice (C : S4097.Idx → BitVec 32) (M : S16384x4096.Idx → BitVec 1) (hC : ∀ x, C x = BitVec.ofNat 32 (rowsOf M (x 0).val)) (y : S4096.Idx) :
    extractStridedSlice S4096 ![1] C slices_S4097_S4096_1 y = BitVec.ofNat 32 (rowsOf M ((y 0).val + 1)) := by
  unfold extractStridedSlice
  refine (hC _).trans (congrArg (fun n => BitVec.ofNat 32 (rowsOf M n)) ?_)
  show 1 + (y 0).val = (y 0).val + 1
  omega

theorem ref_eq (p : S4096.Idx → Ideal .f32) (M : S16384x4096.Idx → BitVec 1) :
    (addf (mulf (broadcastInDim S4096 ![] bcast_S_S4096 (constant S_ .f32 0x3F7FBE77#32)) p) (mulf (broadcastInDim S4096 ![] bcast_S_S4096 (constant S_ .f32 0x3A83126F#32)) (Host.divf (sitofp .f32 (extractStridedSlice S4096 ![1] (Host.scatter scatter_S4097_S16384x1_S16384_n_0_0_1 IntOp.addi (broadcastInDim S4097 ![] bcast_S_S4097 (constantI S_ 32 0#32)) (broadcastInDim S16384x1 ![0] bcast_S16384_S16384x1_0 (select (cmpi .slt (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 0#32))) (addi (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 4097#32))) (maxsi (broadcastInDim S16384 ![] bcast_S_S16384 (id (constantI S_ 32 0#32))) (Host.reduce IntOp.addi (extui 32 M natLt_1_32) (constantI S_ 32 0#32) reducesTo_S16384x4096_S16384_d1 h_S_)))) (broadcastInDim S16384 ![] bcast_S_S16384 (constantI S_ 32 1#32))) slices_S4097_S4096_1)) (broadcastInDim S4096 ![] bcast_S_S4096 (constant S_ .f32 0x46800000#32)))) : S4096.Idx → Ideal .f32)
      = out (F := Ideal) (hist (pack M)) p := by
  funext y
  have hc := ref_count M (broadcastInDim S16384x1 ![0] bcast_S16384_S16384x1_0 (select (cmpi .slt (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 0#32))) (addi (maxsi (broadcastInDim S16384 ![] bcast_S_S16384 (id (constantI S_ 32 0#32))) (Host.reduce IntOp.addi (extui 32 M natLt_1_32) (constantI S_ 32 0#32) reducesTo_S16384x4096_S16384_d1 h_S_)) (broadcastInDim S16384 ![] bcast_S_S16384 (constantI S_ 32 4097#32))) (maxsi (broadcastInDim S16384 ![] bcast_S_S16384 (id (constantI S_ 32 0#32))) (Host.reduce IntOp.addi (extui 32 M natLt_1_32) (constantI S_ 32 0#32) reducesTo_S16384x4096_S16384_d1 h_S_))))
    (fun u => by
      refine (ref_bcast _ u).trans ?_
      exact ref_index M u) (broadcastInDim S4097 ![] bcast_S_S4097 (constantI S_ 32 0#32)) (fun _ => rfl) (broadcastInDim S16384 ![] bcast_S_S16384 (constantI S_ 32 1#32)) (fun _ => rfl)
  have hy : (y 0).val < 4096 := (y 0).isLt
  refine (ref_mix p _ y _ (ref_slice _ M hc y)).trans ?_
  unfold out
  rw [hist_sum M (y 0).val hy]

end Cert.Proof
-- ==== Proof.lean ====
/-
  The proof of `Cert.Claim`: the three frames, what the ideal pass keeps, and the equation of the kernel's results with the
  reference's at the ideal numbers.
-/
module

public import proofs.«01_k».proof.Defs
public import proofs.«01_k».proof.Proof.Launch
public import proofs.«01_k».proof.Proof.Ref
public import proofs.«01_k».proof.Proof.Gen.ReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel as printed is the run of the idealized text at the words. -/
theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Both programs end with the kernel's results: the weighted sum of the given probabilities and the lengths' frequencies. -/
theorem values : Cert.algebraic_KernelIdeal_ReferenceIdeal := by
  intro m g m' g' _ hagree
  refine ⟨fun c => results m c, ?_, ?_⟩
  · exact (θ_run Cert.KernelIdeal.defs _ _).mono (fun _ h c => h.1 c) (run_main (F := Ideal) m g)
  · refine (θ_run Cert.ReferenceIdeal.defs _ _).mono (fun r h c => ⟨(h c).1.trans ((ref_eq _ _).trans ?_), (h c).2⟩) (Cert.ReferenceIdeal.Value.run (F := Ideal) m' g')
    exact congrArg₂ (fun M p => out (F := Ideal) (hist (pack M)) p) (hagree c).2 (hagree c).1

theorem claim : Cert.Claim :=
  ⟨Cert.Kernel.Gen.facts, Cert.KernelIdeal.Gen.facts, Cert.ReferenceIdeal.Gen.facts,
    frame_kernel, frame_kernelIdeal, frame_referenceIdeal, trivial, values⟩

end Cert.Proof

end
